-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernelIdeal : Cert.KernelIdeal.Facts) (hReferenceIdeal : Cert.ReferenceIdeal.Facts) (hPre_finite_gate : Cert.Pre_finite_gate.Facts),
    quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ algebraic_KernelIdeal_ReferenceIdeal_pre_finite_gate (hKernelIdeal := hKernelIdeal) (hReferenceIdeal := hReferenceIdeal) (hPre_finite_gate := hPre_finite_gate)
-- ==== Pre_finite_gate.lean ====
abbrev S1024 : Shape := ⟨1, ![1024]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1024x2048 : Shape := ⟨3, ![16, 1024, 2048]⟩
abbrev S16x2048 : Shape := ⟨2, ![16, 2048]⟩
abbrev S16x2048x1024 : Shape := ⟨3, ![16, 2048, 1024]⟩
abbrev S16x1024 : Shape := ⟨2, ![16, 1024]⟩
abbrev S_ : Shape := ⟨0, ![]⟩

class Facts : Prop where
  bcast_S_S1024 : S_.BroadcastsInDim S1024 (![] : Fin 0 → Fin S1024.rank)
  bcast_S_S1024x512 : S_.BroadcastsInDim S1024x512 (![] : Fin 0 → Fin S1024x512.rank)
  bcast_S_S512 : S_.BroadcastsInDim S512 (![] : Fin 0 → Fin S512.rank)
  bcast_S_S512x16 : S_.BroadcastsInDim S512x16 (![] : Fin 0 → Fin S512x16.rank)
  bcast_S_S16 : S_.BroadcastsInDim S16 (![] : Fin 0 → Fin S16.rank)

variable [Facts]

def fn {F : FTy → Type} [FloatOps F] (main_arg0 : FVec F S1024 .f32) (main_arg1 : FVec F S1024x512 .f32) (main_arg2 : FVec F S512 .f32) (main_arg3 : FVec F S512x16 .f32) (main_arg4 : FVec F S16 .f32) (main_arg5 : FVec F S16x1024x2048 .f32) (main_arg6 : FVec F S16x2048 .f32) (main_arg7 : FVec F S16x2048x1024 .f32) (main_arg8 : FVec F S16x1024 .f32) (main_arg9 : FVec F S16x1024 .f32) (main_arg10 : FVec F S16x1024 .f32) : IVec S1024 1 × IVec S1024x512 1 × IVec S512 1 × IVec S512x16 1 × IVec S16 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x512 .f32 := Host.absf main_arg1
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== KernelIdeal.lean ====
abbrev S1024 : Shape := ⟨1, ![1024]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1024x2048 : Shape := ⟨3, ![16, 1024, 2048]⟩
abbrev S16x2048 : Shape := ⟨2, ![16, 2048]⟩
abbrev S16x2048x1024 : Shape := ⟨3, ![16, 2048, 1024]⟩
abbrev S16x1024 : Shape := ⟨2, ![16, 1024]⟩
abbrev S1x1024 : Shape := ⟨2, ![1, 1024]⟩
abbrev S1x512 : Shape := ⟨2, ![1, 512]⟩
abbrev S1x16 : Shape := ⟨2, ![1, 16]⟩
abbrev S16x1x2048 : Shape := ⟨3, ![16, 1, 2048]⟩
abbrev S16x1x1024 : Shape := ⟨3, ![16, 1, 1024]⟩
abbrev S2x1024x2048 : Shape := ⟨3, ![2, 1024, 2048]⟩
abbrev S2x2048x1024 : Shape := ⟨3, ![2, 2048, 1024]⟩
abbrev S2x1x2048 : Shape := ⟨3, ![2, 1, 2048]⟩
abbrev S2x1x1024 : Shape := ⟨3, ![2, 1, 1024]⟩
abbrev S6x2 : Shape := ⟨2, ![6, 2]⟩
abbrev S1 : Shape := ⟨1, ![1]⟩
abbrev S1x1 : Shape := ⟨2, ![1, 1]⟩
abbrev S1x8 : Shape := ⟨2, ![1, 8]⟩
abbrev S1x1x16 : Shape := ⟨3, ![1, 1, 16]⟩
abbrev S1x1x1 : Shape := ⟨3, ![1, 1, 1]⟩
abbrev S_ : Shape := ⟨0, ![]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1x1x2048 : Shape := ⟨3, ![1, 1, 2048]⟩
abbrev S1x2048 : Shape := ⟨2, ![1, 2048]⟩
abbrev S1x1x1024 : Shape := ⟨3, ![1, 1, 1024]⟩

abbrev nBuf : Space → Nat
  | .hbm => 22
  | .vmem => 13
  | .smem => 0
  | _ => 0

abbrev bufTy : (tb : Table) → Fin (tcTables nBuf tb) → BufTy
  | .hbm, ⟨0, _⟩ => ⟨S1024, .f32⟩
  | .hbm, ⟨1, _⟩ => ⟨S1024x512, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S16x1024x2048, .f32⟩
  | .hbm, ⟨6, _⟩ => ⟨S16x2048, .f32⟩
  | .hbm, ⟨7, _⟩ => ⟨S16x2048x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S1x1024, .f32⟩
  | .hbm, ⟨12, _⟩ => ⟨S1x512, .f32⟩
  | .hbm, ⟨13, _⟩ => ⟨S1x16, .f32⟩
  | .hbm, ⟨14, _⟩ => ⟨S16x1x2048, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S1x16, .f32⟩
  | .hbm, ⟨19, _⟩ => ⟨S1x1024, .f32⟩
  | .hbm, ⟨20, _⟩ => ⟨S1024, .f32⟩
  | .hbm, ⟨21, _⟩ => ⟨S16, .f32⟩
  | .local _ .vmem, ⟨0, _⟩ => ⟨S1x1024, .f32⟩
  | .local _ .vmem, ⟨1, _⟩ => ⟨S1024x512, .f32⟩
  | .local _ .vmem, ⟨2, _⟩ => ⟨S1x512, .f32⟩
  | .local _ .vmem, ⟨3, _⟩ => ⟨S512x16, .f32⟩
  | .local _ .vmem, ⟨4, _⟩ => ⟨S1x16, .f32⟩
  | .local _ .vmem, ⟨5, _⟩ => ⟨S1x16, .f32⟩
  | .local _ .vmem, ⟨6, _⟩ => ⟨S1x1024, .f32⟩
  | .local _ .vmem, ⟨7, _⟩ => ⟨S2x1024x2048, .f32⟩
  | .local _ .vmem, ⟨8, _⟩ => ⟨S2x2048x1024, .f32⟩
  | .local _ .vmem, ⟨9, _⟩ => ⟨S2x1x2048, .f32⟩
  | .local _ .vmem, ⟨10, _⟩ => ⟨S2x1x1024, .f32⟩
  | .local _ .vmem, ⟨11, _⟩ => ⟨S2x1x1024, .f32⟩
  | .local _ .vmem, ⟨12, _⟩ => ⟨S2x1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7_0 : Ref sig .tc := ⟨.hbm, 18, rfl⟩
abbrev main_call0_v7_1 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (v36 : BitVec 32) : Fin 3 → Nat :=
  let c0_i32_53 : BitVec 32 := 0#32
  let c0_i32_54 : BitVec 32 := 0#32
  ![v36.toNat, 0, 0]

def k0_off2 (v36 : BitVec 32) : Fin 3 → Nat :=
  let c0_i32_60 : BitVec 32 := 0#32
  let c0_i32_61 : BitVec 32 := 0#32
  ![v36.toNat, 0, 0]
def k0_off3 (v36 : BitVec 32) : Fin 3 → Nat :=
  let c0_i32_67 : BitVec 32 := 0#32
  let c0_i32_68 : BitVec 32 := 0#32
  ![v36.toNat, 0, 0]
def k0_off4 (v36 : BitVec 32) : Fin 3 → Nat :=
  let c0_i32_74 : BitVec 32 := 0#32
  let c0_i32_75 : BitVec 32 := 0#32
  ![v36.toNat, 0, 0]
def k0_off5 (v55 : BitVec 32) : Fin 3 → Nat :=
  let c0_i32_96 : BitVec 32 := 0#32
  let c0_i32_97 : BitVec 32 := 0#32
  ![v55.toNat, 0, 0]

def k0_off6 (v55 : BitVec 32) : Fin 3 → Nat :=
  let c0_i32_103 : BitVec 32 := 0#32
  let c0_i32_104 : BitVec 32 := 0#32
  ![v55.toNat, 0, 0]
def k0_off7 (v55 : BitVec 32) : Fin 3 → Nat :=
  let c0_i32_110 : BitVec 32 := 0#32
  let c0_i32_111 : BitVec 32 := 0#32
  ![v55.toNat, 0, 0]
def k0_off8 (v55 : BitVec 32) : Fin 3 → Nat :=
  let c0_i32_117 : BitVec 32 := 0#32
  let c0_i32_118 : BitVec 32 := 0#32
  ![v55.toNat, 0, 0]
def k0_off9 (v36 : BitVec 32) : Fin 3 → Nat :=
  let c0_i32_138 : BitVec 32 := 0#32
  let c0_i32_139 : BitVec 32 := 0#32
  ![v36.toNat, 0, 0]
def k0_off10 (v36 : BitVec 32) : Fin 3 → Nat :=
  let c0_i32_145 : BitVec 32 := 0#32
  let c0_i32_146 : BitVec 32 := 0#32
  ![v36.toNat, 0, 0]
def k0_off11 (v36 : BitVec 32) : Fin 3 → Nat :=
  let c0_i32_162 : BitVec 32 := 0#32
  let c0_i32_163 : BitVec 32 := 0#32
  ![v36.toNat, 0, 0]
def k0_off12 (v36 : BitVec 32) : Fin 3 → Nat :=
  let c0_i32_169 : BitVec 32 := 0#32
  let c0_i32_170 : BitVec 32 := 0#32
  ![v36.toNat, 0, 0]

def k0_chk1 (v36 : BitVec 32) : Prop :=
  (∀ a, (k0_off1 v36) a + S1x1024x2048.size a ≤ S16x1024x2048.size a) ∧
  (∀ a, (k0_off2 v36) a + S1x2048x1024.size a ≤ S16x2048x1024.size a) ∧
  (∀ a, (k0_off3 v36) a + S1x1x2048.size a ≤ S16x1x2048.size a) ∧
  (∀ a, (k0_off4 v36) a + S1x1x1024.size a ≤ S16x1x1024.size a) ∧
  (∀ a, (k0_off9 v36) a + S1x1024x2048.size a ≤ S16x1024x2048.size a) ∧
  (∀ a, (k0_off10 v36) a + S1x1x2048.size a ≤ S16x1x2048.size a) ∧
  (∀ a, (k0_off11 v36) a + S1x2048x1024.size a ≤ S16x2048x1024.size a) ∧
  (∀ a, (k0_off12 v36) a + S1x1x1024.size a ≤ S16x1x1024.size a)
theorem k0_off1_inb : ∀ (v36 : BitVec 32) (k0_hw1 : k0_chk1 v36), ∀ a, (k0_off1 v36) a + S1x1024x2048.size a ≤ S16x1024x2048.size a := fun v36 k0_hw1 => k0_hw1.1
theorem k0_off2_inb : ∀ (v36 : BitVec 32) (k0_hw1 : k0_chk1 v36), ∀ a, (k0_off2 v36) a + S1x2048x1024.size a ≤ S16x2048x1024.size a := fun v36 k0_hw1 => k0_hw1.2.1
theorem k0_off3_inb : ∀ (v36 : BitVec 32) (k0_hw1 : k0_chk1 v36), ∀ a, (k0_off3 v36) a + S1x1x2048.size a ≤ S16x1x2048.size a := fun v36 k0_hw1 => k0_hw1.2.2.1
theorem k0_off4_inb : ∀ (v36 : BitVec 32) (k0_hw1 : k0_chk1 v36), ∀ a, (k0_off4 v36) a + S1x1x1024.size a ≤ S16x1x1024.size a := fun v36 k0_hw1 => k0_hw1.2.2.2.1
theorem k0_off9_inb : ∀ (v36 : BitVec 32) (k0_hw1 : k0_chk1 v36), ∀ a, (k0_off9 v36) a + S1x1024x2048.size a ≤ S16x1024x2048.size a := fun v36 k0_hw1 => k0_hw1.2.2.2.2.1
theorem k0_off10_inb : ∀ (v36 : BitVec 32) (k0_hw1 : k0_chk1 v36), ∀ a, (k0_off10 v36) a + S1x1x2048.size a ≤ S16x1x2048.size a := fun v36 k0_hw1 => k0_hw1.2.2.2.2.2.1
theorem k0_off11_inb : ∀ (v36 : BitVec 32) (k0_hw1 : k0_chk1 v36), ∀ a, (k0_off11 v36) a + S1x2048x1024.size a ≤ S16x2048x1024.size a := fun v36 k0_hw1 => k0_hw1.2.2.2.2.2.2.1
theorem k0_off12_inb : ∀ (v36 : BitVec 32) (k0_hw1 : k0_chk1 v36), ∀ a, (k0_off12 v36) a + S1x1x1024.size a ≤ S16x1x1024.size a := fun v36 k0_hw1 => k0_hw1.2.2.2.2.2.2.2

def k0_off13 (v74 : BitVec 32) : Fin 3 → Nat :=
  let c0_i32_208 : BitVec 32 := 0#32
  let c0_i32_209 : BitVec 32 := 0#32
  ![v74.toNat, 0, 0]

def k0_off14 (v74 : BitVec 32) : Fin 3 → Nat :=
  let c0_i32_215 : BitVec 32 := 0#32
  let c0_i32_216 : BitVec 32 := 0#32
  ![v74.toNat, 0, 0]
def k0_off15 (v74 : BitVec 32) : Fin 3 → Nat :=
  let c0_i32_222 : BitVec 32 := 0#32
  let c0_i32_223 : BitVec 32 := 0#32
  ![v74.toNat, 0, 0]
def k0_off16 (v74 : BitVec 32) : Fin 3 → Nat :=
  let c0_i32_229 : BitVec 32 := 0#32
  let c0_i32_230 : BitVec 32 := 0#32
  ![v74.toNat, 0, 0]
def k0_off17 (v55 : BitVec 32) : Fin 3 → Nat :=
  let c0_i32_250 : BitVec 32 := 0#32
  let c0_i32_251 : BitVec 32 := 0#32
  ![v55.toNat, 0, 0]
def k0_off18 (v55 : BitVec 32) : Fin 3 → Nat :=
  let c0_i32_257 : BitVec 32 := 0#32
  let c0_i32_258 : BitVec 32 := 0#32
  ![v55.toNat, 0, 0]
def k0_off19 (v55 : BitVec 32) : Fin 3 → Nat :=
  let c0_i32_273 : BitVec 32 := 0#32
  let c0_i32_274 : BitVec 32 := 0#32
  ![v55.toNat, 0, 0]
def k0_off20 (v55 : BitVec 32) : Fin 3 → Nat :=
  let c0_i32_280 : BitVec 32 := 0#32
  let c0_i32_281 : BitVec 32 := 0#32
  ![v55.toNat, 0, 0]

def k0_chk2 (v55 : BitVec 32) : Prop :=
  (∀ a, (k0_off5 v55) a + S1x1024x2048.size a ≤ S16x1024x2048.size a) ∧
  (∀ a, (k0_off6 v55) a + S1x2048x1024.size a ≤ S16x2048x1024.size a) ∧
  (∀ a, (k0_off7 v55) a + S1x1x2048.size a ≤ S16x1x2048.size a) ∧
  (∀ a, (k0_off8 v55) a + S1x1x1024.size a ≤ S16x1x1024.size a) ∧
  (∀ a, (k0_off17 v55) a + S1x1024x2048.size a ≤ S16x1024x2048.size a) ∧
  (∀ a, (k0_off18 v55) a + S1x1x2048.size a ≤ S16x1x2048.size a) ∧
  (∀ a, (k0_off19 v55) a + S1x2048x1024.size a ≤ S16x2048x1024.size a) ∧
  (∀ a, (k0_off20 v55) a + S1x1x1024.size a ≤ S16x1x1024.size a)
theorem k0_off5_inb : ∀ (v55 : BitVec 32) (k0_hw2 : k0_chk2 v55), ∀ a, (k0_off5 v55) a + S1x1024x2048.size a ≤ S16x1024x2048.size a := fun v55 k0_hw2 => k0_hw2.1
theorem k0_off6_inb : ∀ (v55 : BitVec 32) (k0_hw2 : k0_chk2 v55), ∀ a, (k0_off6 v55) a + S1x2048x1024.size a ≤ S16x2048x1024.size a := fun v55 k0_hw2 => k0_hw2.2.1
theorem k0_off7_inb : ∀ (v55 : BitVec 32) (k0_hw2 : k0_chk2 v55), ∀ a, (k0_off7 v55) a + S1x1x2048.size a ≤ S16x1x2048.size a := fun v55 k0_hw2 => k0_hw2.2.2.1
theorem k0_off8_inb : ∀ (v55 : BitVec 32) (k0_hw2 : k0_chk2 v55), ∀ a, (k0_off8 v55) a + S1x1x1024.size a ≤ S16x1x1024.size a := fun v55 k0_hw2 => k0_hw2.2.2.2.1
theorem k0_off17_inb : ∀ (v55 : BitVec 32) (k0_hw2 : k0_chk2 v55), ∀ a, (k0_off17 v55) a + S1x1024x2048.size a ≤ S16x1024x2048.size a := fun v55 k0_hw2 => k0_hw2.2.2.2.2.1
theorem k0_off18_inb : ∀ (v55 : BitVec 32) (k0_hw2 : k0_chk2 v55), ∀ a, (k0_off18 v55) a + S1x1x2048.size a ≤ S16x1x2048.size a := fun v55 k0_hw2 => k0_hw2.2.2.2.2.2.1
theorem k0_off19_inb : ∀ (v55 : BitVec 32) (k0_hw2 : k0_chk2 v55), ∀ a, (k0_off19 v55) a + S1x2048x1024.size a ≤ S16x2048x1024.size a := fun v55 k0_hw2 => k0_hw2.2.2.2.2.2.2.1
theorem k0_off20_inb : ∀ (v55 : BitVec 32) (k0_hw2 : k0_chk2 v55), ∀ a, (k0_off20 v55) a + S1x1x1024.size a ≤ S16x1x1024.size a := fun v55 k0_hw2 => k0_hw2.2.2.2.2.2.2.2

def k0_off21 (v93 : BitVec 32) : Fin 3 → Nat :=
  let c0_i32_319 : BitVec 32 := 0#32
  let c0_i32_320 : BitVec 32 := 0#32
  ![v93.toNat, 0, 0]

def k0_off22 (v93 : BitVec 32) : Fin 3 → Nat :=
  let c0_i32_326 : BitVec 32 := 0#32
  let c0_i32_327 : BitVec 32 := 0#32
  ![v93.toNat, 0, 0]
def k0_off23 (v93 : BitVec 32) : Fin 3 → Nat :=
  let c0_i32_333 : BitVec 32 := 0#32
  let c0_i32_334 : BitVec 32 := 0#32
  ![v93.toNat, 0, 0]
def k0_off24 (v93 : BitVec 32) : Fin 3 → Nat :=
  let c0_i32_340 : BitVec 32 := 0#32
  let c0_i32_341 : BitVec 32 := 0#32
  ![v93.toNat, 0, 0]
def k0_off25 (v74 : BitVec 32) : Fin 3 → Nat :=
  let c0_i32_361 : BitVec 32 := 0#32
  let c0_i32_362 : BitVec 32 := 0#32
  ![v74.toNat, 0, 0]
def k0_off26 (v74 : BitVec 32) : Fin 3 → Nat :=
  let c0_i32_368 : BitVec 32 := 0#32
  let c0_i32_369 : BitVec 32 := 0#32
  ![v74.toNat, 0, 0]
def k0_off27 (v74 : BitVec 32) : Fin 3 → Nat :=
  let c0_i32_385 : BitVec 32 := 0#32
  let c0_i32_386 : BitVec 32 := 0#32
  ![v74.toNat, 0, 0]
def k0_off28 (v74 : BitVec 32) : Fin 3 → Nat :=
  let c0_i32_392 : BitVec 32 := 0#32
  let c0_i32_393 : BitVec 32 := 0#32
  ![v74.toNat, 0, 0]

def k0_chk3 (v74 : BitVec 32) : Prop :=
  (∀ a, (k0_off13 v74) a + S1x1024x2048.size a ≤ S16x1024x2048.size a) ∧
  (∀ a, (k0_off14 v74) a + S1x2048x1024.size a ≤ S16x2048x1024.size a) ∧
  (∀ a, (k0_off15 v74) a + S1x1x2048.size a ≤ S16x1x2048.size a) ∧
  (∀ a, (k0_off16 v74) a + S1x1x1024.size a ≤ S16x1x1024.size a) ∧
  (∀ a, (k0_off25 v74) a + S1x1024x2048.size a ≤ S16x1024x2048.size a) ∧
  (∀ a, (k0_off26 v74) a + S1x1x2048.size a ≤ S16x1x2048.size a) ∧
  (∀ a, (k0_off27 v74) a + S1x2048x1024.size a ≤ S16x2048x1024.size a) ∧
  (∀ a, (k0_off28 v74) a + S1x1x1024.size a ≤ S16x1x1024.size a)
theorem k0_off13_inb : ∀ (v74 : BitVec 32) (k0_hw3 : k0_chk3 v74), ∀ a, (k0_off13 v74) a + S1x1024x2048.size a ≤ S16x1024x2048.size a := fun v74 k0_hw3 => k0_hw3.1
theorem k0_off14_inb : ∀ (v74 : BitVec 32) (k0_hw3 : k0_chk3 v74), ∀ a, (k0_off14 v74) a + S1x2048x1024.size a ≤ S16x2048x1024.size a := fun v74 k0_hw3 => k0_hw3.2.1
theorem k0_off15_inb : ∀ (v74 : BitVec 32) (k0_hw3 : k0_chk3 v74), ∀ a, (k0_off15 v74) a + S1x1x2048.size a ≤ S16x1x2048.size a := fun v74 k0_hw3 => k0_hw3.2.2.1
theorem k0_off16_inb : ∀ (v74 : BitVec 32) (k0_hw3 : k0_chk3 v74), ∀ a, (k0_off16 v74) a + S1x1x1024.size a ≤ S16x1x1024.size a := fun v74 k0_hw3 => k0_hw3.2.2.2.1
theorem k0_off25_inb : ∀ (v74 : BitVec 32) (k0_hw3 : k0_chk3 v74), ∀ a, (k0_off25 v74) a + S1x1024x2048.size a ≤ S16x1024x2048.size a := fun v74 k0_hw3 => k0_hw3.2.2.2.2.1
theorem k0_off26_inb : ∀ (v74 : BitVec 32) (k0_hw3 : k0_chk3 v74), ∀ a, (k0_off26 v74) a + S1x1x2048.size a ≤ S16x1x2048.size a := fun v74 k0_hw3 => k0_hw3.2.2.2.2.2.1
theorem k0_off27_inb : ∀ (v74 : BitVec 32) (k0_hw3 : k0_chk3 v74), ∀ a, (k0_off27 v74) a + S1x2048x1024.size a ≤ S16x2048x1024.size a := fun v74 k0_hw3 => k0_hw3.2.2.2.2.2.2.1
theorem k0_off28_inb : ∀ (v74 : BitVec 32) (k0_hw3 : k0_chk3 v74), ∀ a, (k0_off28 v74) a + S1x1x1024.size a ≤ S16x1x1024.size a := fun v74 k0_hw3 => k0_hw3.2.2.2.2.2.2.2

def k0_off29 (v112 : BitVec 32) : Fin 3 → Nat :=
  let c0_i32_431 : BitVec 32 := 0#32
  let c0_i32_432 : BitVec 32 := 0#32
  ![v112.toNat, 0, 0]

def k0_off30 (v112 : BitVec 32) : Fin 3 → Nat :=
  let c0_i32_438 : BitVec 32 := 0#32
  let c0_i32_439 : BitVec 32 := 0#32
  ![v112.toNat, 0, 0]
def k0_off31 (v112 : BitVec 32) : Fin 3 → Nat :=
  let c0_i32_445 : BitVec 32 := 0#32
  let c0_i32_446 : BitVec 32 := 0#32
  ![v112.toNat, 0, 0]
def k0_off32 (v112 : BitVec 32) : Fin 3 → Nat :=
  let c0_i32_452 : BitVec 32 := 0#32
  let c0_i32_453 : BitVec 32 := 0#32
  ![v112.toNat, 0, 0]
def k0_off33 (v93 : BitVec 32) : Fin 3 → Nat :=
  let c0_i32_473 : BitVec 32 := 0#32
  let c0_i32_474 : BitVec 32 := 0#32
  ![v93.toNat, 0, 0]
def k0_off34 (v93 : BitVec 32) : Fin 3 → Nat :=
  let c0_i32_480 : BitVec 32 := 0#32
  let c0_i32_481 : BitVec 32 := 0#32
  ![v93.toNat, 0, 0]
def k0_off35 (v93 : BitVec 32) : Fin 3 → Nat :=
  let c0_i32_497 : BitVec 32 := 0#32
  let c0_i32_498 : BitVec 32 := 0#32
  ![v93.toNat, 0, 0]
def k0_off36 (v93 : BitVec 32) : Fin 3 → Nat :=
  let c0_i32_504 : BitVec 32 := 0#32
  let c0_i32_505 : BitVec 32 := 0#32
  ![v93.toNat, 0, 0]

def k0_chk4 (v93 : BitVec 32) : Prop :=
  (∀ a, (k0_off21 v93) a + S1x1024x2048.size a ≤ S16x1024x2048.size a) ∧
  (∀ a, (k0_off22 v93) a + S1x2048x1024.size a ≤ S16x2048x1024.size a) ∧
  (∀ a, (k0_off23 v93) a + S1x1x2048.size a ≤ S16x1x2048.size a) ∧
  (∀ a, (k0_off24 v93) a + S1x1x1024.size a ≤ S16x1x1024.size a) ∧
  (∀ a, (k0_off33 v93) a + S1x1024x2048.size a ≤ S16x1024x2048.size a) ∧
  (∀ a, (k0_off34 v93) a + S1x1x2048.size a ≤ S16x1x2048.size a) ∧
  (∀ a, (k0_off35 v93) a + S1x2048x1024.size a ≤ S16x2048x1024.size a) ∧
  (∀ a, (k0_off36 v93) a + S1x1x1024.size a ≤ S16x1x1024.size a)
theorem k0_off21_inb : ∀ (v93 : BitVec 32) (k0_hw4 : k0_chk4 v93), ∀ a, (k0_off21 v93) a + S1x1024x2048.size a ≤ S16x1024x2048.size a := fun v93 k0_hw4 => k0_hw4.1
theorem k0_off22_inb : ∀ (v93 : BitVec 32) (k0_hw4 : k0_chk4 v93), ∀ a, (k0_off22 v93) a + S1x2048x1024.size a ≤ S16x2048x1024.size a := fun v93 k0_hw4 => k0_hw4.2.1
theorem k0_off23_inb : ∀ (v93 : BitVec 32) (k0_hw4 : k0_chk4 v93), ∀ a, (k0_off23 v93) a + S1x1x2048.size a ≤ S16x1x2048.size a := fun v93 k0_hw4 => k0_hw4.2.2.1
theorem k0_off24_inb : ∀ (v93 : BitVec 32) (k0_hw4 : k0_chk4 v93), ∀ a, (k0_off24 v93) a + S1x1x1024.size a ≤ S16x1x1024.size a := fun v93 k0_hw4 => k0_hw4.2.2.2.1
theorem k0_off33_inb : ∀ (v93 : BitVec 32) (k0_hw4 : k0_chk4 v93), ∀ a, (k0_off33 v93) a + S1x1024x2048.size a ≤ S16x1024x2048.size a := fun v93 k0_hw4 => k0_hw4.2.2.2.2.1
theorem k0_off34_inb : ∀ (v93 : BitVec 32) (k0_hw4 : k0_chk4 v93), ∀ a, (k0_off34 v93) a + S1x1x2048.size a ≤ S16x1x2048.size a := fun v93 k0_hw4 => k0_hw4.2.2.2.2.2.1
theorem k0_off35_inb : ∀ (v93 : BitVec 32) (k0_hw4 : k0_chk4 v93), ∀ a, (k0_off35 v93) a + S1x2048x1024.size a ≤ S16x2048x1024.size a := fun v93 k0_hw4 => k0_hw4.2.2.2.2.2.2.1
theorem k0_off36_inb : ∀ (v93 : BitVec 32) (k0_hw4 : k0_chk4 v93), ∀ a, (k0_off36 v93) a + S1x1x1024.size a ≤ S16x1x1024.size a := fun v93 k0_hw4 => k0_hw4.2.2.2.2.2.2.2

def k0_off37 (v131 : BitVec 32) : Fin 3 → Nat :=
  let c0_i32_543 : BitVec 32 := 0#32
  let c0_i32_544 : BitVec 32 := 0#32
  ![v131.toNat, 0, 0]

def k0_off38 (v131 : BitVec 32) : Fin 3 → Nat :=
  let c0_i32_550 : BitVec 32 := 0#32
  let c0_i32_551 : BitVec 32 := 0#32
  ![v131.toNat, 0, 0]
def k0_off39 (v131 : BitVec 32) : Fin 3 → Nat :=
  let c0_i32_557 : BitVec 32 := 0#32
  let c0_i32_558 : BitVec 32 := 0#32
  ![v131.toNat, 0, 0]
def k0_off40 (v131 : BitVec 32) : Fin 3 → Nat :=
  let c0_i32_564 : BitVec 32 := 0#32
  let c0_i32_565 : BitVec 32 := 0#32
  ![v131.toNat, 0, 0]
def k0_off41 (v112 : BitVec 32) : Fin 3 → Nat :=
  let c0_i32_585 : BitVec 32 := 0#32
  let c0_i32_586 : BitVec 32 := 0#32
  ![v112.toNat, 0, 0]
def k0_off42 (v112 : BitVec 32) : Fin 3 → Nat :=
  let c0_i32_592 : BitVec 32 := 0#32
  let c0_i32_593 : BitVec 32 := 0#32
  ![v112.toNat, 0, 0]
def k0_off43 (v112 : BitVec 32) : Fin 3 → Nat :=
  let c0_i32_609 : BitVec 32 := 0#32
  let c0_i32_610 : BitVec 32 := 0#32
  ![v112.toNat, 0, 0]
def k0_off44 (v112 : BitVec 32) : Fin 3 → Nat :=
  let c0_i32_616 : BitVec 32 := 0#32
  let c0_i32_617 : BitVec 32 := 0#32
  ![v112.toNat, 0, 0]

def k0_chk5 (v112 : BitVec 32) : Prop :=
  (∀ a, (k0_off29 v112) a + S1x1024x2048.size a ≤ S16x1024x2048.size a) ∧
  (∀ a, (k0_off30 v112) a + S1x2048x1024.size a ≤ S16x2048x1024.size a) ∧
  (∀ a, (k0_off31 v112) a + S1x1x2048.size a ≤ S16x1x2048.size a) ∧
  (∀ a, (k0_off32 v112) a + S1x1x1024.size a ≤ S16x1x1024.size a) ∧
  (∀ a, (k0_off41 v112) a + S1x1024x2048.size a ≤ S16x1024x2048.size a) ∧
  (∀ a, (k0_off42 v112) a + S1x1x2048.size a ≤ S16x1x2048.size a) ∧
  (∀ a, (k0_off43 v112) a + S1x2048x1024.size a ≤ S16x2048x1024.size a) ∧
  (∀ a, (k0_off44 v112) a + S1x1x1024.size a ≤ S16x1x1024.size a)
theorem k0_off29_inb : ∀ (v112 : BitVec 32) (k0_hw5 : k0_chk5 v112), ∀ a, (k0_off29 v112) a + S1x1024x2048.size a ≤ S16x1024x2048.size a := fun v112 k0_hw5 => k0_hw5.1
theorem k0_off30_inb : ∀ (v112 : BitVec 32) (k0_hw5 : k0_chk5 v112), ∀ a, (k0_off30 v112) a + S1x2048x1024.size a ≤ S16x2048x1024.size a := fun v112 k0_hw5 => k0_hw5.2.1
theorem k0_off31_inb : ∀ (v112 : BitVec 32) (k0_hw5 : k0_chk5 v112), ∀ a, (k0_off31 v112) a + S1x1x2048.size a ≤ S16x1x2048.size a := fun v112 k0_hw5 => k0_hw5.2.2.1
theorem k0_off32_inb : ∀ (v112 : BitVec 32) (k0_hw5 : k0_chk5 v112), ∀ a, (k0_off32 v112) a + S1x1x1024.size a ≤ S16x1x1024.size a := fun v112 k0_hw5 => k0_hw5.2.2.2.1
theorem k0_off41_inb : ∀ (v112 : BitVec 32) (k0_hw5 : k0_chk5 v112), ∀ a, (k0_off41 v112) a + S1x1024x2048.size a ≤ S16x1024x2048.size a := fun v112 k0_hw5 => k0_hw5.2.2.2.2.1
theorem k0_off42_inb : ∀ (v112 : BitVec 32) (k0_hw5 : k0_chk5 v112), ∀ a, (k0_off42 v112) a + S1x1x2048.size a ≤ S16x1x2048.size a := fun v112 k0_hw5 => k0_hw5.2.2.2.2.2.1
theorem k0_off43_inb : ∀ (v112 : BitVec 32) (k0_hw5 : k0_chk5 v112), ∀ a, (k0_off43 v112) a + S1x2048x1024.size a ≤ S16x2048x1024.size a := fun v112 k0_hw5 => k0_hw5.2.2.2.2.2.2.1
theorem k0_off44_inb : ∀ (v112 : BitVec 32) (k0_hw5 : k0_chk5 v112), ∀ a, (k0_off44 v112) a + S1x1x1024.size a ≤ S16x1x1024.size a := fun v112 k0_hw5 => k0_hw5.2.2.2.2.2.2.2

def k0_off45 (v150 : BitVec 32) : Fin 3 → Nat :=
  let c0_i32_655 : BitVec 32 := 0#32
  let c0_i32_656 : BitVec 32 := 0#32
  ![v150.toNat, 0, 0]

def k0_off46 (v150 : BitVec 32) : Fin 3 → Nat :=
  let c0_i32_662 : BitVec 32 := 0#32
  let c0_i32_663 : BitVec 32 := 0#32
  ![v150.toNat, 0, 0]
def k0_off47 (v150 : BitVec 32) : Fin 3 → Nat :=
  let c0_i32_669 : BitVec 32 := 0#32
  let c0_i32_670 : BitVec 32 := 0#32
  ![v150.toNat, 0, 0]
def k0_off48 (v150 : BitVec 32) : Fin 3 → Nat :=
  let c0_i32_676 : BitVec 32 := 0#32
  let c0_i32_677 : BitVec 32 := 0#32
  ![v150.toNat, 0, 0]
def k0_off49 (v131 : BitVec 32) : Fin 3 → Nat :=
  let c0_i32_697 : BitVec 32 := 0#32
  let c0_i32_698 : BitVec 32 := 0#32
  ![v131.toNat, 0, 0]
def k0_off50 (v131 : BitVec 32) : Fin 3 → Nat :=
  let c0_i32_704 : BitVec 32 := 0#32
  let c0_i32_705 : BitVec 32 := 0#32
  ![v131.toNat, 0, 0]
def k0_off51 (v131 : BitVec 32) : Fin 3 → Nat :=
  let c0_i32_721 : BitVec 32 := 0#32
  let c0_i32_722 : BitVec 32 := 0#32
  ![v131.toNat, 0, 0]
def k0_off52 (v131 : BitVec 32) : Fin 3 → Nat :=
  let c0_i32_728 : BitVec 32 := 0#32
  let c0_i32_729 : BitVec 32 := 0#32
  ![v131.toNat, 0, 0]

def k0_chk6 (v131 : BitVec 32) : Prop :=
  (∀ a, (k0_off37 v131) a + S1x1024x2048.size a ≤ S16x1024x2048.size a) ∧
  (∀ a, (k0_off38 v131) a + S1x2048x1024.size a ≤ S16x2048x1024.size a) ∧
  (∀ a, (k0_off39 v131) a + S1x1x2048.size a ≤ S16x1x2048.size a) ∧
  (∀ a, (k0_off40 v131) a + S1x1x1024.size a ≤ S16x1x1024.size a) ∧
  (∀ a, (k0_off49 v131) a + S1x1024x2048.size a ≤ S16x1024x2048.size a) ∧
  (∀ a, (k0_off50 v131) a + S1x1x2048.size a ≤ S16x1x2048.size a) ∧
  (∀ a, (k0_off51 v131) a + S1x2048x1024.size a ≤ S16x2048x1024.size a) ∧
  (∀ a, (k0_off52 v131) a + S1x1x1024.size a ≤ S16x1x1024.size a)
theorem k0_off37_inb : ∀ (v131 : BitVec 32) (k0_hw6 : k0_chk6 v131), ∀ a, (k0_off37 v131) a + S1x1024x2048.size a ≤ S16x1024x2048.size a := fun v131 k0_hw6 => k0_hw6.1
theorem k0_off38_inb : ∀ (v131 : BitVec 32) (k0_hw6 : k0_chk6 v131), ∀ a, (k0_off38 v131) a + S1x2048x1024.size a ≤ S16x2048x1024.size a := fun v131 k0_hw6 => k0_hw6.2.1
theorem k0_off39_inb : ∀ (v131 : BitVec 32) (k0_hw6 : k0_chk6 v131), ∀ a, (k0_off39 v131) a + S1x1x2048.size a ≤ S16x1x2048.size a := fun v131 k0_hw6 => k0_hw6.2.2.1
theorem k0_off40_inb : ∀ (v131 : BitVec 32) (k0_hw6 : k0_chk6 v131), ∀ a, (k0_off40 v131) a + S1x1x1024.size a ≤ S16x1x1024.size a := fun v131 k0_hw6 => k0_hw6.2.2.2.1
theorem k0_off49_inb : ∀ (v131 : BitVec 32) (k0_hw6 : k0_chk6 v131), ∀ a, (k0_off49 v131) a + S1x1024x2048.size a ≤ S16x1024x2048.size a := fun v131 k0_hw6 => k0_hw6.2.2.2.2.1
theorem k0_off50_inb : ∀ (v131 : BitVec 32) (k0_hw6 : k0_chk6 v131), ∀ a, (k0_off50 v131) a + S1x1x2048.size a ≤ S16x1x2048.size a := fun v131 k0_hw6 => k0_hw6.2.2.2.2.2.1
theorem k0_off51_inb : ∀ (v131 : BitVec 32) (k0_hw6 : k0_chk6 v131), ∀ a, (k0_off51 v131) a + S1x2048x1024.size a ≤ S16x2048x1024.size a := fun v131 k0_hw6 => k0_hw6.2.2.2.2.2.2.1
theorem k0_off52_inb : ∀ (v131 : BitVec 32) (k0_hw6 : k0_chk6 v131), ∀ a, (k0_off52 v131) a + S1x1x1024.size a ≤ S16x1x1024.size a := fun v131 k0_hw6 => k0_hw6.2.2.2.2.2.2.2

def k0_off53 (v169 : BitVec 32) : Fin 3 → Nat :=
  let c0_i32_767 : BitVec 32 := 0#32
  let c0_i32_768 : BitVec 32 := 0#32
  ![v169.toNat, 0, 0]

def k0_off54 (v169 : BitVec 32) : Fin 3 → Nat :=
  let c0_i32_774 : BitVec 32 := 0#32
  let c0_i32_775 : BitVec 32 := 0#32
  ![v169.toNat, 0, 0]
def k0_off55 (v169 : BitVec 32) : Fin 3 → Nat :=
  let c0_i32_781 : BitVec 32 := 0#32
  let c0_i32_782 : BitVec 32 := 0#32
  ![v169.toNat, 0, 0]
def k0_off56 (v169 : BitVec 32) : Fin 3 → Nat :=
  let c0_i32_788 : BitVec 32 := 0#32
  let c0_i32_789 : BitVec 32 := 0#32
  ![v169.toNat, 0, 0]

def k0_chk8 (v169 : BitVec 32) : Prop :=
  (∀ a, (k0_off53 v169) a + S1x1024x2048.size a ≤ S16x1024x2048.size a) ∧
  (∀ a, (k0_off54 v169) a + S1x2048x1024.size a ≤ S16x2048x1024.size a) ∧
  (∀ a, (k0_off55 v169) a + S1x1x2048.size a ≤ S16x1x2048.size a) ∧
  (∀ a, (k0_off56 v169) a + S1x1x1024.size a ≤ S16x1x1024.size a)
theorem k0_off53_inb : ∀ (v169 : BitVec 32) (k0_hw8 : k0_chk8 v169), ∀ a, (k0_off53 v169) a + S1x1024x2048.size a ≤ S16x1024x2048.size a := fun v169 k0_hw8 => k0_hw8.1
theorem k0_off54_inb : ∀ (v169 : BitVec 32) (k0_hw8 : k0_chk8 v169), ∀ a, (k0_off54 v169) a + S1x2048x1024.size a ≤ S16x2048x1024.size a := fun v169 k0_hw8 => k0_hw8.2.1
theorem k0_off55_inb : ∀ (v169 : BitVec 32) (k0_hw8 : k0_chk8 v169), ∀ a, (k0_off55 v169) a + S1x1x2048.size a ≤ S16x1x2048.size a := fun v169 k0_hw8 => k0_hw8.2.2.1
theorem k0_off56_inb : ∀ (v169 : BitVec 32) (k0_hw8 : k0_chk8 v169), ∀ a, (k0_off56 v169) a + S1x1x1024.size a ≤ S16x1x1024.size a := fun v169 k0_hw8 => k0_hw8.2.2.2

def k0_off57 (v150 : BitVec 32) : Fin 3 → Nat :=
  let c0_i32_809 : BitVec 32 := 0#32
  let c0_i32_810 : BitVec 32 := 0#32
  ![v150.toNat, 0, 0]
def k0_off58 (v150 : BitVec 32) : Fin 3 → Nat :=
  let c0_i32_816 : BitVec 32 := 0#32
  let c0_i32_817 : BitVec 32 := 0#32
  ![v150.toNat, 0, 0]
def k0_off59 (v150 : BitVec 32) : Fin 3 → Nat :=
  let c0_i32_833 : BitVec 32 := 0#32
  let c0_i32_834 : BitVec 32 := 0#32
  ![v150.toNat, 0, 0]
def k0_off60 (v150 : BitVec 32) : Fin 3 → Nat :=
  let c0_i32_840 : BitVec 32 := 0#32
  let c0_i32_841 : BitVec 32 := 0#32
  ![v150.toNat, 0, 0]

def k0_chk7 (v150 : BitVec 32) : Prop :=
  (∀ a, (k0_off45 v150) a + S1x1024x2048.size a ≤ S16x1024x2048.size a) ∧
  (∀ a, (k0_off46 v150) a + S1x2048x1024.size a ≤ S16x2048x1024.size a) ∧
  (∀ a, (k0_off47 v150) a + S1x1x2048.size a ≤ S16x1x2048.size a) ∧
  (∀ a, (k0_off48 v150) a + S1x1x1024.size a ≤ S16x1x1024.size a) ∧
  (∀ a, (k0_off57 v150) a + S1x1024x2048.size a ≤ S16x1024x2048.size a) ∧
  (∀ a, (k0_off58 v150) a + S1x1x2048.size a ≤ S16x1x2048.size a) ∧
  (∀ a, (k0_off59 v150) a + S1x2048x1024.size a ≤ S16x2048x1024.size a) ∧
  (∀ a, (k0_off60 v150) a + S1x1x1024.size a ≤ S16x1x1024.size a)
theorem k0_off45_inb : ∀ (v150 : BitVec 32) (k0_hw7 : k0_chk7 v150), ∀ a, (k0_off45 v150) a + S1x1024x2048.size a ≤ S16x1024x2048.size a := fun v150 k0_hw7 => k0_hw7.1
theorem k0_off46_inb : ∀ (v150 : BitVec 32) (k0_hw7 : k0_chk7 v150), ∀ a, (k0_off46 v150) a + S1x2048x1024.size a ≤ S16x2048x1024.size a := fun v150 k0_hw7 => k0_hw7.2.1
theorem k0_off47_inb : ∀ (v150 : BitVec 32) (k0_hw7 : k0_chk7 v150), ∀ a, (k0_off47 v150) a + S1x1x2048.size a ≤ S16x1x2048.size a := fun v150 k0_hw7 => k0_hw7.2.2.1
theorem k0_off48_inb : ∀ (v150 : BitVec 32) (k0_hw7 : k0_chk7 v150), ∀ a, (k0_off48 v150) a + S1x1x1024.size a ≤ S16x1x1024.size a := fun v150 k0_hw7 => k0_hw7.2.2.2.1
theorem k0_off57_inb : ∀ (v150 : BitVec 32) (k0_hw7 : k0_chk7 v150), ∀ a, (k0_off57 v150) a + S1x1024x2048.size a ≤ S16x1024x2048.size a := fun v150 k0_hw7 => k0_hw7.2.2.2.2.1
theorem k0_off58_inb : ∀ (v150 : BitVec 32) (k0_hw7 : k0_chk7 v150), ∀ a, (k0_off58 v150) a + S1x1x2048.size a ≤ S16x1x2048.size a := fun v150 k0_hw7 => k0_hw7.2.2.2.2.2.1
theorem k0_off59_inb : ∀ (v150 : BitVec 32) (k0_hw7 : k0_chk7 v150), ∀ a, (k0_off59 v150) a + S1x2048x1024.size a ≤ S16x2048x1024.size a := fun v150 k0_hw7 => k0_hw7.2.2.2.2.2.2.1
theorem k0_off60_inb : ∀ (v150 : BitVec 32) (k0_hw7 : k0_chk7 v150), ∀ a, (k0_off60 v150) a + S1x1x1024.size a ≤ S16x1x1024.size a := fun v150 k0_hw7 => k0_hw7.2.2.2.2.2.2.2

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1024 : Shape := ⟨1, ![1024]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1024x2048 : Shape := ⟨3, ![16, 1024, 2048]⟩
abbrev S16x2048 : Shape := ⟨2, ![16, 2048]⟩
abbrev S16x2048x1024 : Shape := ⟨3, ![16, 2048, 1024]⟩
abbrev S16x1024 : Shape := ⟨2, ![16, 1024]⟩
abbrev S_ : Shape := ⟨0, ![]⟩
abbrev S1 : Shape := ⟨1, ![1]⟩
abbrev S8 : Shape := ⟨1, ![8]⟩
abbrev S8x1 : Shape := ⟨2, ![8, 1]⟩
abbrev S1x1 : Shape := ⟨2, ![1, 1]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩

abbrev nBuf : Space → Nat
  | .hbm => 242
  | .vmem => 0
  | .smem => 0
  | _ => 0

abbrev hbmTy0_0 (i : Nat) : BufTy := match i % 128 with
  | 0 => ⟨S1024, .f32⟩
  | 1 => ⟨S1024x512, .f32⟩
  | 2 => ⟨S512, .f32⟩
  | 3 => ⟨S512x16, .f32⟩
  | 4 => ⟨S16, .f32⟩
  | 5 => ⟨S16x1024x2048, .f32⟩
  | 6 => ⟨S16x2048, .f32⟩
  | 7 => ⟨S16x2048x1024, .f32⟩
  | 8 => ⟨S16x1024, .f32⟩
  | 9 => ⟨S16x1024, .f32⟩
  | 10 => ⟨S16x1024, .f32⟩
  | 11 => ⟨S512, .f32⟩
  | 12 => ⟨S512, .f32⟩
  | 13 => ⟨S_, .f32⟩
  | 14 => ⟨S512, .f32⟩
  | 15 => ⟨S512, .f32⟩
  | 16 => ⟨S16, .f32⟩
  | 17 => ⟨S16, .f32⟩
  | 18 => ⟨S_, .f32⟩
  | 19 => ⟨S_, .f32⟩
  | 20 => ⟨S_, .f32⟩
  | 21 => ⟨S_, .f32⟩
  | 22 => ⟨S1, .f32⟩
  | 23 => ⟨S16, .f32⟩
  | 24 => ⟨S16, .f32⟩
  | 25 => ⟨S16, .f32⟩
  | 26 => ⟨S_, .f32⟩
  | 27 => ⟨S_, .f32⟩
  | 28 => ⟨S1, .f32⟩
  | 29 => ⟨S16, .f32⟩
  | 30 => ⟨S16, .f32⟩
  | 31 => ⟨S8, .f32⟩
  | 32 => ⟨S8, .i32⟩
  | 33 => ⟨S_, .f32⟩
  | 34 => ⟨S_, .f32⟩
  | 35 => ⟨S_, .f32⟩
  | 36 => ⟨S_, .f32⟩
  | 37 => ⟨S1, .f32⟩
  | 38 => ⟨S8, .f32⟩
  | 39 => ⟨S8, .f32⟩
  | 40 => ⟨S8, .f32⟩
  | 41 => ⟨S_, .f32⟩
  | 42 => ⟨S_, .f32⟩
  | 43 => ⟨S1, .f32⟩
  | 44 => ⟨S8, .f32⟩
  | 45 => ⟨S8, .f32⟩
  | 46 => ⟨S_, .i32⟩
  | 47 => ⟨S8, .i32⟩
  | 48 => ⟨S8, .i1⟩
  | 49 => ⟨S_, .i32⟩
  | 50 => ⟨S8, .i32⟩
  | 51 => ⟨S8, .i32⟩
  | 52 => ⟨S8, .i32⟩
  | 53 => ⟨S8x1, .i32⟩
  | 54 => ⟨S1, .i32⟩
  | 55 => ⟨S_, .i32⟩
  | 56 => ⟨S8x1, .i32⟩
  | 57 => ⟨S8x1, .i1⟩
  | 58 => ⟨S1x1, .i32⟩
  | 59 => ⟨S8x1, .i32⟩
  | 60 => ⟨S8x1, .i1⟩
  | 61 => ⟨S8x1, .i1⟩
  | 62 => ⟨S_, .i1⟩
  | 63 => ⟨S8, .i1⟩
  | 64 => ⟨S8x1024x2048, .f32⟩
  | 65 => ⟨S8x1024x2048, .i1⟩
  | 66 => ⟨S_, .f32⟩
  | 67 => ⟨S8x1024x2048, .f32⟩
  | 68 => ⟨S8x1024x2048, .f32⟩
  | 69 => ⟨S_, .i32⟩
  | 70 => ⟨S8, .i32⟩
  | 71 => ⟨S8, .i1⟩
  | 72 => ⟨S_, .i32⟩
  | 73 => ⟨S8, .i32⟩
  | 74 => ⟨S8, .i32⟩
  | 75 => ⟨S8, .i32⟩
  | 76 => ⟨S8x1, .i32⟩
  | 77 => ⟨S1, .i32⟩
  | 78 => ⟨S_, .i32⟩
  | 79 => ⟨S8x1, .i32⟩
  | 80 => ⟨S8x1, .i1⟩
  | 81 => ⟨S1x1, .i32⟩
  | 82 => ⟨S8x1, .i32⟩
  | 83 => ⟨S8x1, .i1⟩
  | 84 => ⟨S8x1, .i1⟩
  | 85 => ⟨S_, .i1⟩
  | 86 => ⟨S8, .i1⟩
  | 87 => ⟨S8x2048, .f32⟩
  | 88 => ⟨S8x2048, .i1⟩
  | 89 => ⟨S_, .f32⟩
  | 90 => ⟨S8x2048, .f32⟩
  | 91 => ⟨S8x2048, .f32⟩
  | 92 => ⟨S_, .i32⟩
  | 93 => ⟨S8, .i32⟩
  | 94 => ⟨S8, .i1⟩
  | 95 => ⟨S_, .i32⟩
  | 96 => ⟨S8, .i32⟩
  | 97 => ⟨S8, .i32⟩
  | 98 => ⟨S8, .i32⟩
  | 99 => ⟨S8x1, .i32⟩
  | 100 => ⟨S1, .i32⟩
  | 101 => ⟨S_, .i32⟩
  | 102 => ⟨S8x1, .i32⟩
  | 103 => ⟨S8x1, .i1⟩
  | 104 => ⟨S1x1, .i32⟩
  | 105 => ⟨S8x1, .i32⟩
  | 106 => ⟨S8x1, .i1⟩
  | 107 => ⟨S8x1, .i1⟩
  | 108 => ⟨S_, .i1⟩
  | 109 => ⟨S8, .i1⟩
  | 110 => ⟨S8x2048x1024, .f32⟩
  | 111 => ⟨S8x2048x1024, .i1⟩
  | 112 => ⟨S_, .f32⟩
  | 113 => ⟨S8x2048x1024, .f32⟩
  | 114 => ⟨S8x2048x1024, .f32⟩
  | 115 => ⟨S_, .i32⟩
  | 116 => ⟨S8, .i32⟩
  | 117 => ⟨S8, .i1⟩
  | 118 => ⟨S_, .i32⟩
  | 119 => ⟨S8, .i32⟩
  | 120 => ⟨S8, .i32⟩
  | 121 => ⟨S8, .i32⟩
  | 122 => ⟨S8x1, .i32⟩
  | 123 => ⟨S1, .i32⟩
  | 124 => ⟨S_, .i32⟩
  | 125 => ⟨S8x1, .i32⟩
  | 126 => ⟨S8x1, .i1⟩
  | 127 => ⟨S1x1, .i32⟩
  | _ => ⟨S1024, .f32⟩

abbrev hbmTy0_1 (i : Nat) : BufTy := match i % 128 with
  | 0 => ⟨S8x1, .i32⟩
  | 1 => ⟨S8x1, .i1⟩
  | 2 => ⟨S8x1, .i1⟩
  | 3 => ⟨S_, .i1⟩
  | 4 => ⟨S8, .i1⟩
  | 5 => ⟨S8x1024, .f32⟩
  | 6 => ⟨S8x1024, .i1⟩
  | 7 => ⟨S_, .f32⟩
  | 8 => ⟨S8x1024, .f32⟩
  | 9 => ⟨S8x1024, .f32⟩
  | 10 => ⟨S_, .i32⟩
  | 11 => ⟨S8, .i32⟩
  | 12 => ⟨S8, .i1⟩
  | 13 => ⟨S_, .i32⟩
  | 14 => ⟨S8, .i32⟩
  | 15 => ⟨S8, .i32⟩
  | 16 => ⟨S8, .i32⟩
  | 17 => ⟨S8x1, .i32⟩
  | 18 => ⟨S1, .i32⟩
  | 19 => ⟨S_, .i32⟩
  | 20 => ⟨S8x1, .i32⟩
  | 21 => ⟨S8x1, .i1⟩
  | 22 => ⟨S1x1, .i32⟩
  | 23 => ⟨S8x1, .i32⟩
  | 24 => ⟨S8x1, .i1⟩
  | 25 => ⟨S8x1, .i1⟩
  | 26 => ⟨S_, .i1⟩
  | 27 => ⟨S8, .i1⟩
  | 28 => ⟨S8x1024, .f32⟩
  | 29 => ⟨S8x1024, .i1⟩
  | 30 => ⟨S_, .f32⟩
  | 31 => ⟨S8x1024, .f32⟩
  | 32 => ⟨S8x1024, .f32⟩
  | 33 => ⟨S_, .i32⟩
  | 34 => ⟨S8, .i32⟩
  | 35 => ⟨S8, .i1⟩
  | 36 => ⟨S_, .i32⟩
  | 37 => ⟨S8, .i32⟩
  | 38 => ⟨S8, .i32⟩
  | 39 => ⟨S8, .i32⟩
  | 40 => ⟨S8x1, .i32⟩
  | 41 => ⟨S1, .i32⟩
  | 42 => ⟨S_, .i32⟩
  | 43 => ⟨S8x1, .i32⟩
  | 44 => ⟨S8x1, .i1⟩
  | 45 => ⟨S1x1, .i32⟩
  | 46 => ⟨S8x1, .i32⟩
  | 47 => ⟨S8x1, .i1⟩
  | 48 => ⟨S8x1, .i1⟩
  | 49 => ⟨S_, .i1⟩
  | 50 => ⟨S8, .i1⟩
  | 51 => ⟨S8x1024, .f32⟩
  | 52 => ⟨S8x1024, .i1⟩
  | 53 => ⟨S_, .f32⟩
  | 54 => ⟨S8x1024, .f32⟩
  | 55 => ⟨S8x1024, .f32⟩
  | 56 => ⟨S8x2048, .f32⟩
  | 57 => ⟨S8x2048, .f32⟩
  | 58 => ⟨S_, .f32⟩
  | 59 => ⟨S8x2048, .f32⟩
  | 60 => ⟨S8x2048, .f32⟩
  | 61 => ⟨S8x2048, .f32⟩
  | 62 => ⟨S_, .f32⟩
  | 63 => ⟨S8x2048, .f32⟩
  | 64 => ⟨S8x2048, .f32⟩
  | 65 => ⟨S8x2048, .f32⟩
  | 66 => ⟨S8x2048, .f32⟩
  | 67 => ⟨S8x1024, .f32⟩
  | 68 => ⟨S8x1024, .f32⟩
  | 69 => ⟨S_, .f32⟩
  | 70 => ⟨S8, .f32⟩
  | 71 => ⟨S8x1, .f32⟩
  | 72 => ⟨S_, .f32⟩
  | 73 => ⟨S8x1, .f32⟩
  | 74 => ⟨S8x1, .f32⟩
  | 75 => ⟨S_, .i32⟩
  | 76 => ⟨S_, .f32⟩
  | 77 => ⟨S8, .f32⟩
  | 78 => ⟨S8x1, .f32⟩
  | 79 => ⟨S_, .f32⟩
  | 80 => ⟨S8x1, .f32⟩
  | 81 => ⟨S8x1, .f32⟩
  | 82 => ⟨S8x1024, .f32⟩
  | 83 => ⟨S8x1024, .f32⟩
  | 84 => ⟨S8x1024, .f32⟩
  | 85 => ⟨S_, .f32⟩
  | 86 => ⟨S_, .f32⟩
  | 87 => ⟨S_, .f32⟩
  | 88 => ⟨S_, .f32⟩
  | 89 => ⟨S8, .f32⟩
  | 90 => ⟨S8x1, .f32⟩
  | 91 => ⟨S8x1, .f32⟩
  | 92 => ⟨S8x1, .f32⟩
  | 93 => ⟨S_, .f32⟩
  | 94 => ⟨S_, .i1⟩
  | 95 => ⟨S_, .f32⟩
  | 96 => ⟨S_, .f32⟩
  | 97 => ⟨S8x1, .f32⟩
  | 98 => ⟨S8x1, .f32⟩
  | 99 => ⟨S8x1024, .f32⟩
  | 100 => ⟨S8x1024, .f32⟩
  | 101 => ⟨S_, .f32⟩
  | 102 => ⟨S8x1, .f32⟩
  | 103 => ⟨S8x1, .f32⟩
  | 104 => ⟨S8x1, .f32⟩
  | 105 => ⟨S8x1024, .f32⟩
  | 106 => ⟨S8x1024, .f32⟩
  | 107 => ⟨S8x1024, .f32⟩
  | 108 => ⟨S8x1024, .f32⟩
  | 109 => ⟨S8x1, .f32⟩
  | 110 => ⟨S8x1024, .f32⟩
  | 111 => ⟨S8x1024, .f32⟩
  | 112 => ⟨S_, .f32⟩
  | 113 => ⟨S1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_cst : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_values : Ref sig .tc := ⟨.hbm, 31, rfl⟩
abbrev main_indices : Ref sig .tc := ⟨.hbm, 32, rfl⟩
abbrev main_cst_2 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v25 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v26 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v27 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v28 : Ref sig .tc := ⟨.hbm, 137, rfl⟩
abbrev main_call5_c : Ref sig .tc := ⟨.hbm, 138, rfl⟩
abbrev main_call5_v0 : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_c_1 : Ref sig .tc := ⟨.hbm, 146, rfl⟩
abbrev main_call5_c_2 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_c_3 : Ref sig .tc := ⟨.hbm, 154, rfl⟩
abbrev main_call5_v12 : Ref sig .tc := ⟨.hbm, 155, rfl⟩
abbrev main_call5_v13 : Ref sig .tc := ⟨.hbm, 156, rfl⟩
abbrev main_call5_v14 : Ref sig .tc := ⟨.hbm, 157, rfl⟩
abbrev main_call5_cst : Ref sig .tc := ⟨.hbm, 158, rfl⟩
abbrev main_call5_v15 : Ref sig .tc := ⟨.hbm, 159, rfl⟩
abbrev main_v29 : Ref sig .tc := ⟨.hbm, 160, rfl⟩
abbrev main_call6_c : Ref sig .tc := ⟨.hbm, 161, rfl⟩
abbrev main_call6_v0 : Ref sig .tc := ⟨.hbm, 162, rfl⟩
abbrev main_call6_v1 : Ref sig .tc := ⟨.hbm, 163, rfl⟩
abbrev main_call6_c_0 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_c_1 : Ref sig .tc := ⟨.hbm, 169, rfl⟩
abbrev main_call6_c_2 : Ref sig .tc := ⟨.hbm, 170, rfl⟩
abbrev main_call6_v6 : Ref sig .tc := ⟨.hbm, 171, rfl⟩
abbrev main_call6_v7 : Ref sig .tc := ⟨.hbm, 172, rfl⟩
abbrev main_call6_v8 : Ref sig .tc := ⟨.hbm, 173, rfl⟩
abbrev main_call6_v9 : Ref sig .tc := ⟨.hbm, 174, rfl⟩
abbrev main_call6_v10 : Ref sig .tc := ⟨.hbm, 175, rfl⟩
abbrev main_call6_v11 : Ref sig .tc := ⟨.hbm, 176, rfl⟩
abbrev main_call6_c_3 : Ref sig .tc := ⟨.hbm, 177, rfl⟩
abbrev main_call6_v12 : Ref sig .tc := ⟨.hbm, 178, rfl⟩
abbrev main_call6_v13 : Ref sig .tc := ⟨.hbm, 179, rfl⟩
abbrev main_call6_v14 : Ref sig .tc := ⟨.hbm, 180, rfl⟩
abbrev main_call6_cst : Ref sig .tc := ⟨.hbm, 181, rfl⟩
abbrev main_call6_v15 : Ref sig .tc := ⟨.hbm, 182, rfl⟩
abbrev main_v30 : Ref sig .tc := ⟨.hbm, 183, rfl⟩
abbrev main_v31 : Ref sig .tc := ⟨.hbm, 184, rfl⟩
abbrev main_v32 : Ref sig .tc := ⟨.hbm, 185, rfl⟩
abbrev main_cst_5 : Ref sig .tc := ⟨.hbm, 186, rfl⟩
abbrev main_v33 : Ref sig .tc := ⟨.hbm, 187, rfl⟩
abbrev main_v34 : Ref sig .tc := ⟨.hbm, 188, rfl⟩
abbrev main_v35 : Ref sig .tc := ⟨.hbm, 189, rfl⟩
abbrev main_cst_6 : Ref sig .tc := ⟨.hbm, 190, rfl⟩
abbrev main_v36 : Ref sig .tc := ⟨.hbm, 191, rfl⟩
abbrev main_v37 : Ref sig .tc := ⟨.hbm, 192, rfl⟩
abbrev main_v38 : Ref sig .tc := ⟨.hbm, 193, rfl⟩
abbrev main_v39 : Ref sig .tc := ⟨.hbm, 194, rfl⟩
abbrev main_v40 : Ref sig .tc := ⟨.hbm, 195, rfl⟩
abbrev main_v41 : Ref sig .tc := ⟨.hbm, 196, rfl⟩
abbrev main_cst_7 : Ref sig .tc := ⟨.hbm, 197, rfl⟩
abbrev main_v42 : Ref sig .tc := ⟨.hbm, 198, rfl⟩
abbrev main_v43 : Ref sig .tc := ⟨.hbm, 199, rfl⟩
abbrev main_cst_8 : Ref sig .tc := ⟨.hbm, 200, rfl⟩
abbrev main_v44 : Ref sig .tc := ⟨.hbm, 201, rfl⟩
abbrev main_v45 : Ref sig .tc := ⟨.hbm, 202, rfl⟩
abbrev main_c : Ref sig .tc := ⟨.hbm, 203, rfl⟩
abbrev main_call7_cst : Ref sig .tc := ⟨.hbm, 204, rfl⟩
abbrev main_call7_v0 : Ref sig .tc := ⟨.hbm, 205, rfl⟩
abbrev main_call7_v1 : Ref sig .tc := ⟨.hbm, 206, rfl⟩
abbrev main_call7_cst_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_v6 : Ref sig .tc := ⟨.hbm, 212, rfl⟩
abbrev main_call7_v7 : Ref sig .tc := ⟨.hbm, 213, rfl⟩
abbrev main_call7_cst_1 : Ref sig .tc := ⟨.hbm, 214, rfl⟩
abbrev main_call7_v8 : Ref sig .tc := ⟨.hbm, 215, rfl⟩
abbrev main_call7_cst_2 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_v12 : Ref sig .tc := ⟨.hbm, 220, rfl⟩
abbrev main_call7_cst_3 : Ref sig .tc := ⟨.hbm, 221, rfl⟩
abbrev main_call7_v13 : Ref sig .tc := ⟨.hbm, 222, rfl⟩
abbrev main_call7_cst_4 : Ref sig .tc := ⟨.hbm, 223, rfl⟩
abbrev main_call7_call0_v0 : Ref sig .tc := ⟨.hbm, 224, rfl⟩
abbrev main_call7_call0_v1 : Ref sig .tc := ⟨.hbm, 225, rfl⟩
abbrev main_v46 : Ref sig .tc := ⟨.hbm, 226, rfl⟩
abbrev main_v47 : Ref sig .tc := ⟨.hbm, 227, rfl⟩
abbrev main_v48 : Ref sig .tc := ⟨.hbm, 228, rfl⟩
abbrev main_cst_9 : Ref sig .tc := ⟨.hbm, 229, rfl⟩
abbrev main_v49 : Ref sig .tc := ⟨.hbm, 230, rfl⟩
abbrev main_v50 : Ref sig .tc := ⟨.hbm, 231, rfl⟩
abbrev main_v51 : Ref sig .tc := ⟨.hbm, 232, rfl⟩
abbrev main_v52 : Ref sig .tc := ⟨.hbm, 233, rfl⟩
abbrev main_v53 : Ref sig .tc := ⟨.hbm, 234, rfl⟩
abbrev main_v54 : Ref sig .tc := ⟨.hbm, 235, rfl⟩
abbrev main_v55 : Ref sig .tc := ⟨.hbm, 236, rfl⟩
abbrev main_v56 : Ref sig .tc := ⟨.hbm, 237, rfl⟩
abbrev main_v57 : Ref sig .tc := ⟨.hbm, 238, rfl⟩
abbrev main_v58 : Ref sig .tc := ⟨.hbm, 239, rfl⟩
abbrev main_cst_10 : Ref sig .tc := ⟨.hbm, 240, rfl⟩
abbrev main_v59 : Ref sig .tc := ⟨.hbm, 241, rfl⟩

abbrev nD : Nat := 1
abbrev τ : Topo := Topo.v7x

variable {F : FTy → Type} [FloatOps F]
-- ==== Proof.Body.lean ====
/- The body of the kernel, run once: from the blocks of the inputs, the six tables left in HBM, the scratch and the
   cells at zero, to the two results written, everything else handed back. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The choice of the experts, as the kernel computes it from what it loads -/

section Chosen
variable (x : Vec F S1x1024 .f32) (w1 : Vec F S1024x512 .f32) (b1 : Vec F S1x512 .f32) (w2 : Vec F S512x16 .f32) (b2 : Vec F S1x16 .f32)

abbrev lanes : IVec S1x16 32 := iota .tc S1x16 32 [1] iota_S1x16_d1_w32
abbrev slots : IVec S1x8 32 := iota .tc S1x8 32 [1] iota_S1x8_d1_w32
/-- The one word of a vector of one word. -/
abbrev word (v : IVec S1x1x1 32) : BitVec 32 := extractAt ![0, 0, 0] v inpos_S1x1x1_p0_0_0

abbrev prob : FVec F S1x16 .f32 := k0_pay3 x w1 b1 w2 b2
abbrev ix1 : BitVec 32 := word (k0_pay6 x w1 b1 w2 b2)
abbrev ix2 : BitVec 32 := word (k0_pay9 (prob x w1 b1 w2 b2) lanes (ix1 x w1 b1 w2 b2))
abbrev left2 : FVec F S1x16 .f32 := k0_pay10 (prob x w1 b1 w2 b2) lanes (ix1 x w1 b1 w2 b2)
abbrev ix3 : BitVec 32 := word (k0_pay12 (prob x w1 b1 w2 b2) lanes (ix1 x w1 b1 w2 b2))
abbrev vals3 : FVec F S1x8 .f32 :=
  k0_pay13 (prob x w1 b1 w2 b2) lanes slots (k0_pay4 (F := F)) (k0_pay5 x w1 b1 w2 b2) (ix1 x w1 b1 w2 b2)
abbrev hit3 : IVec S1x16 1 := k0_pay14 (prob x w1 b1 w2 b2) lanes (ix1 x w1 b1 w2 b2)
abbrev ix4 : BitVec 32 := word (k0_pay18 lanes (left2 x w1 b1 w2 b2) (hit3 x w1 b1 w2 b2) (k0_pay15 (F := F)))
abbrev ix5 : BitVec 32 := word (k0_pay21 lanes (left2 x w1 b1 w2 b2) (hit3 x w1 b1 w2 b2) (k0_pay15 (F := F)))
abbrev vals5 : FVec F S1x8 .f32 :=
  k0_pay22 lanes slots (left2 x w1 b1 w2 b2) (vals3 x w1 b1 w2 b2) (hit3 x w1 b1 w2 b2) (k0_pay15 (F := F))
abbrev left5 : FVec F S1x16 .f32 := k0_pay23 lanes (left2 x w1 b1 w2 b2) (hit3 x w1 b1 w2 b2) (k0_pay15 (F := F))
abbrev max6 : FVec F S1x1 .f32 := k0_pay24 lanes (left2 x w1 b1 w2 b2) (hit3 x w1 b1 w2 b2) (k0_pay15 (F := F))
abbrev cand6 : IVec S1x1x16 32 := k0_pay25 lanes (left2 x w1 b1 w2 b2) (hit3 x w1 b1 w2 b2) (k0_pay15 (F := F))
abbrev ix6 : BitVec 32 := word (k0_pay26 (cand6 x w1 b1 w2 b2))
abbrev ix7 : BitVec 32 := word (k0_pay29 lanes (left5 x w1 b1 w2 b2) (cand6 x w1 b1 w2 b2))
abbrev vals7 : FVec F S1x8 .f32 :=
  k0_pay30 lanes slots (vals5 x w1 b1 w2 b2) (left5 x w1 b1 w2 b2) (max6 x w1 b1 w2 b2) (cand6 x w1 b1 w2 b2)
abbrev ix8 : BitVec 32 := word (k0_pay33 lanes (left5 x w1 b1 w2 b2) (cand6 x w1 b1 w2 b2))
abbrev gates : FVec F S1x8 .f32 :=
  k0_pay36 (vals7 x w1 b1 w2 b2) (k0_pay34 slots) (k0_pay35 lanes (left5 x w1 b1 w2 b2) (cand6 x w1 b1 w2 b2))

/-- Every chosen expert is one of the sixteen, as the kernel's transfers need it. -/
structure Chosen : Prop where
  c1 : k0_chk1 (ix1 x w1 b1 w2 b2)
  c2 : k0_chk2 (ix2 x w1 b1 w2 b2)
  c3 : k0_chk3 (ix3 x w1 b1 w2 b2)
  c4 : k0_chk4 (ix4 x w1 b1 w2 b2)
  c5 : k0_chk5 (ix5 x w1 b1 w2 b2)
  c6 : k0_chk6 (ix6 x w1 b1 w2 b2)
  c7 : k0_chk7 (ix7 x w1 b1 w2 b2)
  c8 : k0_chk8 (ix8 x w1 b1 w2 b2)
end Chosen

/-! ## The body's operands -/

abbrev scM0 : Memref sig .tc .vmem S2x1024x2048 .f32 := Memref.whole cc0_scratch0
abbrev scM1 : Memref sig .tc .vmem S2x2048x1024 .f32 := Memref.whole cc0_scratch1
abbrev scM2 : Memref sig .tc .vmem S2x1x2048 .f32 := Memref.whole cc0_scratch2
abbrev scM3 : Memref sig .tc .vmem S2x1x1024 .f32 := Memref.whole cc0_scratch3
abbrev scM4 : Memref sig .tc .vmem S2x1x1024 .f32 := Memref.whole cc0_scratch4
abbrev scM5 : Memref sig .tc .vmem S2x1x1024 .f32 := Memref.whole cc0_scratch5
/-- The experts' tables, left in HBM. -/
abbrev hbM0 : Memref sig .tc .hbm S16x1024x2048 .f32 := Memref.whole main_arg5
abbrev hbM1 : Memref sig .tc .hbm S16x1x2048 .f32 := Memref.whole main_call0_v3
abbrev hbM2 : Memref sig .tc .hbm S16x2048x1024 .f32 := Memref.whole main_arg7
abbrev hbM3 : Memref sig .tc .hbm S16x1x1024 .f32 := Memref.whole main_call0_v4
abbrev hbM4 : Memref sig .tc .hbm S16x1x1024 .f32 := Memref.whole main_call0_v5
abbrev hbM5 : Memref sig .tc .hbm S16x1x1024 .f32 := Memref.whole main_call0_v6
abbrev HbBuf (c : Dev nD) {sp : Space} {S : Shape} {e : EltTy} (M : Memref sig .tc sp S e) : Type := Buf (Elt F) (M.view.loc (c : Thread nD τ))
abbrev hbPtq (c : Dev nD) {sp : Space} {S : Shape} {e : EltTy} (M : Memref sig .tc sp S e) (q : PosShare TreeShare) (f : HbBuf (F := F) c M) : sProp 𝕄 :=
  M.view.loc (c : Thread nD τ) ↦{q} f
abbrev hbPt (c : Dev nD) {sp : Space} {S : Shape} {e : EltTy} (M : Memref sig .tc sp S e) (f : HbBuf (F := F) c M) : sProp 𝕄 :=
  hbPtq c M fullShare f

/-- What is left of a table's share when the read tokens `n` and `n + 1` are taken out of it. -/
def restToks (c : Dev nD) {sp : Space} {S : Shape} {e : EltTy} (M : Memref sig .tc sp S e) (n : ℕ) (f : HbBuf (F := F) c M) : sProp 𝕄 :=
  iprop(hbPtq c M (Transfers.shareDrop fullShare (n + 2)) f
    ∗ BI.bigSep (Finset.range n) (fun i => hbPtq c M (Transfers.shareTokN fullShare i) f))

/-- A table as that and the two read tokens: two transfers, on the cells `n` and `n + 1`, read it at once. -/
theorem toks (c : Dev nD) {sp : Space} {S : Shape} {e : EltTy} (M : Memref sig .tc sp S e) (n : ℕ) (f : HbBuf (F := F) c M) :
    (hbPt c M f : sProp 𝕄) = iprop(restToks c M n f
      ∗ hbPtq c M (Transfers.shareTokN fullShare n) f ∗ hbPtq c M (Transfers.shareTokN fullShare (n + 1)) f) := by
  have h := Transfers.pointsTo_toks_range (Ix := Unit) (Name := ℕ) (U := Pipeline.UD sig nD τ) (Lvl := ℕ) (Val := Elt F)
    (ℓ := M.view.loc (c : Thread nD τ)) (S := Finset.univ) (f := f) fullShare (n + 2)
  rw [Finset.range_add_one, BI.bigSep_insert Finset.notMem_range_self, Finset.range_add_one,
    BI.bigSep_insert Finset.notMem_range_self] at h
  change (_ : sProp 𝕄) ⊣⊢ iprop(_ ∗ _ ∗ _ ∗ _) at h
  apply Entails.antisymm
  · refine h.1.trans ?_
    unfold restToks
    iintro ⟨Hd, H1, H0, Hr⟩
    isplitl [Hd Hr]
    · isplitl [Hd]; · iexact Hd
      iexact Hr
    isplitl [H0]; · iexact H0
    iexact H1
  · refine BIBase.Entails.trans ?_ h.2
    unfold restToks
    iintro ⟨⟨Hd, Hr⟩, H0, H1⟩
    isplitl [Hd]; · iexact Hd
    isplitl [H1]; · iexact H1
    isplitl [H0]; · iexact H0
    iexact Hr

set_option maxHeartbeats 1000000 in
set_option sl_exec.dmaWindow true in
/-- The body's triple, the two results' pieces found by the run. -/
noncomputable def kernelRun (c : Dev nD) (arg0 : Memref sig .tc .vmem S1x1024 .f32) (harg0 : arg0.IsWhole) (arg1 : Memref sig .tc .vmem S1024x512 .f32) (harg1 : arg1.IsWhole) (arg2 : Memref sig .tc .vmem S1x512 .f32) (harg2 : arg2.IsWhole) (arg3 : Memref sig .tc .vmem S512x16 .f32) (harg3 : arg3.IsWhole) (arg4 : Memref sig .tc .vmem S1x16 .f32) (harg4 : arg4.IsWhole) (arg11 : Memref sig .tc .vmem S1x16 .f32) (harg11 : arg11.IsWhole) (arg12 : Memref sig .tc .vmem S1x1024 .f32) (harg12 : arg12.IsWhole)
    (x0 : Vec F S1x1024 .f32) (x1 : Vec F S1024x512 .f32) (x2 : Vec F S1x512 .f32) (x3 : Vec F S512x16 .f32) (x4 : Vec F S1x16 .f32)
    (fh0 : HbBuf (F := F) c hbM0) (fh1 : HbBuf (F := F) c hbM1) (fh2 : HbBuf (F := F) c hbM2) (fh3 : HbBuf (F := F) c hbM3) (fh4 : HbBuf (F := F) c hbM4) (fh5 : HbBuf (F := F) c hbM5)
    (fs0 : HbBuf (F := F) c scM0) (fs1 : HbBuf (F := F) c scM1) (fs2 : HbBuf (F := F) c scM2) (fs3 : HbBuf (F := F) c scM3) (fs4 : HbBuf (F := F) c scM4) (fs5 : HbBuf (F := F) c scM5)
    (c1 : k0_chk1 (ix1 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c2 : k0_chk2 (ix2 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c3 : k0_chk3 (ix3 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c4 : k0_chk4 (ix4 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c5 : k0_chk5 (ix5 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c6 : k0_chk6 (ix6 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c7 : k0_chk7 (ix7 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c8 : k0_chk8 (ix8 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4)))) :
    Σ' (L1 : List (View.Piece (Elt F) S1x16 .f32)) (L2 : List (View.Piece (Elt F) S1x1024 .f32)),
      ∀ (W : Waits sig Unit) (K : PUnit → sProp 𝕄),
        iprop((arg0.view.loc (c : Thread nD τ) ↦[arg0.view.set]{fullShare} harg0.unread x0)
            ∗ (arg1.view.loc (c : Thread nD τ) ↦[arg1.view.set]{fullShare} harg1.unread x1)
            ∗ (arg2.view.loc (c : Thread nD τ) ↦[arg2.view.set]{fullShare} harg2.unread x2)
            ∗ (arg3.view.loc (c : Thread nD τ) ↦[arg3.view.set]{fullShare} harg3.unread x3)
            ∗ (arg4.view.loc (c : Thread nD τ) ↦[arg4.view.set]{fullShare} harg4.unread x4)
            ∗ (∃ d, owns (c : Thread nD τ) arg11 fullShare d)
            ∗ (∃ d, owns (c : Thread nD τ) arg12 fullShare d)
            ∗ hbPt c scM0 fs0
            ∗ hbPt c scM1 fs1
            ∗ hbPt c scM2 fs2
            ∗ hbPt c scM3 fs3
            ∗ hbPt c scM4 fs4
            ∗ hbPt c scM5 fs5
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ hbPt c hbM0 fh0
            ∗ hbPt c hbM1 fh1
            ∗ hbPt c hbM2 fh2
            ∗ hbPt c hbM3 fh3
            ∗ hbPt c hbM4 fh4
            ∗ hbPt c hbM5 fh5
            ∗ owes (c : Thread nD τ) 0 W
            ∗ (iprop((arg0.view.loc (c : Thread nD τ) ↦[arg0.view.set]{fullShare} harg0.unread x0)
            ∗ (arg1.view.loc (c : Thread nD τ) ↦[arg1.view.set]{fullShare} harg1.unread x1)
            ∗ (arg2.view.loc (c : Thread nD τ) ↦[arg2.view.set]{fullShare} harg2.unread x2)
            ∗ (arg3.view.loc (c : Thread nD τ) ↦[arg3.view.set]{fullShare} harg3.unread x3)
            ∗ (arg4.view.loc (c : Thread nD τ) ↦[arg4.view.set]{fullShare} harg4.unread x4)
            ∗ (∃ f, arg11.view.loc (c : Thread nD τ) ↦[arg11.view.set]{fullShare} arg11.view.writes (Elt F) f L1)
            ∗ (∃ f, arg12.view.loc (c : Thread nD τ) ↦[arg12.view.set]{fullShare} arg12.view.writes (Elt F) f L2)
            ∗ (∃ f, hbPt c scM0 f)
            ∗ (∃ f, hbPt c scM1 f)
            ∗ (∃ f, hbPt c scM2 f)
            ∗ (∃ f, hbPt c scM3 f)
            ∗ (∃ f, hbPt c scM4 f)
            ∗ (∃ f, hbPt c scM5 f)
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ hbPt c hbM0 fh0
            ∗ hbPt c hbM1 fh1
            ∗ hbPt c hbM2 fh2
            ∗ hbPt c hbM3 fh3
            ∗ hbPt c hbM4 fh4
            ∗ hbPt c hbM5 fh5
            ∗ (∃ W', owes (c : Thread nD τ) 0 W')) -∗ K ⟨⟩))
          ⊢ wp frame (wpE (defs₀ (F := F)) Variants.none c none) Set.univ
              (cc0__fused_body arg0 harg0 arg1 harg1 arg2 harg2 arg3 harg3 arg4 harg4 hbM0 (Memref.isWhole_whole _) hbM1 (Memref.isWhole_whole _) hbM2 (Memref.isWhole_whole _) hbM3 (Memref.isWhole_whole _) hbM4 (Memref.isWhole_whole _) hbM5 (Memref.isWhole_whole _) arg11 harg11 arg12 harg12 scM0 (Memref.isWhole_whole _) scM1 (Memref.isWhole_whole _) scM2 (Memref.isWhole_whole _) scM3 (Memref.isWhole_whole _) scM4 (Memref.isWhole_whole _) scM5 (Memref.isWhole_whole _) cc0_scratch6) K := by
  refine ⟨?_, ?_, fun W K => ?run⟩
  case run =>
    rw [toks c hbM0 7, toks c hbM1 11, toks c hbM2 9, toks c hbM3 13, toks c hbM4 15, toks c hbM5 17]
    simp only [cc0__fused_body_eq_skeleton]; unfold cc0__fused_body_skel
    unfold owns
    iintro ⟨HI0, HI1, HI2, HI3, HI4, ⟨%dA, %fA, -, HA⟩, ⟨%dB, %fB, -, HB⟩, HS0, HS1, HS2, HS3, HS4, HS5, Hq7, Hq8, Hq9, Hq10, Hq11, Hq12, Hq13, Hq14, Hq15, Hq16, Hq17, Hq18, ⟨Hr0, Ha0, Hb0⟩, ⟨Hr1, Ha1, Hb1⟩, ⟨Hr2, Ha2, Hb2⟩, ⟨Hr3, Ha3, Hb3⟩, ⟨Hr4, Ha4, Hb4⟩, ⟨Hr5, Ha5, Hb5⟩, HW, Hk⟩
    sl_exec
    sl_step
    iapply Hk
    isplitl [HI0]; · iexact HI0
    isplitl [HI1]; · iexact HI1
    isplitl [HI2]; · iexact HI2
    isplitl [HI3]; · iexact HI3
    isplitl [HI4]; · iexact HI4
    isplitl [HA]; · iexists _; iexact HA
    isplitl [HB]; · iexists _; iexact HB
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hr0 Ha0 Hb0]
    · isplitl [Hr0]; · iexact Hr0
      isplitl [Ha0]; · iexact Ha0
      iexact Hb0
    isplitl [Hr1 Ha1 Hb1]
    · isplitl [Hr1]; · iexact Hr1
      isplitl [Ha1]; · iexact Ha1
      iexact Hb1
    isplitl [Hr2 Ha2 Hb2]
    · isplitl [Hr2]; · iexact Hr2
      isplitl [Ha2]; · iexact Ha2
      iexact Hb2
    isplitl [Hr3 Ha3 Hb3]
    · isplitl [Hr3]; · iexact Hr3
      isplitl [Ha3]; · iexact Ha3
      iexact Hb3
    isplitl [Hr4 Ha4 Hb4]
    · isplitl [Hr4]; · iexact Hr4
      isplitl [Ha4]; · iexact Ha4
      iexact Hb4
    isplitl [Hr5 Ha5 Hb5]
    · isplitl [Hr5]; · iexact Hr5
      isplitl [Ha5]; · iexact Ha5
      iexact Hb5
    iexists _; iexact HW

end Cert.KernelIdeal.Hand

end
-- ==== Proof.Step.lean ====
/- The kernel's arithmetic, said once: the choice of an expert from the probabilities left, the value of one expert,
   and the weighted sum of the eight. -/
module

public import proofs.«01_k».proof.Proof.Body
public import Idealize.ShloMosaic.Lib.ValueIdx

@[expose] public section

set_option maxRecDepth 16384

noncomputable section

namespace Cert.KernelIdeal.Hand

open Cert.KernelIdeal Cert.KernelIdeal.Gen
open Idealize.ShloMosaic

variable {F : FTy → Type} [FloatOps F]

/-! ## Choosing -/

/-- The largest of the sixteen numbers. -/
def top (p : FVec F S1x16 .f32) : FVec F S1x1 .f32 :=
  shapeCast S1x1 (multiReduction .maximumf [1] S1 p 0xFF800000#32 reduces_S1x16_S1 (.inl rfl) rfl) shapeCasts_S1_S1x1

/-- The places that hold the largest, the others marked by sixteen. -/
def marks (p : FVec F S1x16 .f32) : IVec S1x16 32 :=
  select (cmpf .oeq p (broadcastTo S1x16 (top p) broadcasts_S1x1_S1x16)) lanes (broadcast S1x16 16#32)

/-- The first place that holds the largest. -/
def place (p : FVec F S1x16 .f32) : BitVec 32 :=
  word (shapeCast S1x1x1 (multiReductionI .minsi [1, 2] S1 (shapeCast S1x1x16 (marks p) shapeCasts_S1x16_S1x1x16)
    2147483647#32 reduces_S1x1x16_S1 rfl) shapeCasts_S1_S1x1x1)

/-- The numbers with that place struck out. -/
def strike (p : FVec F S1x16 .f32) : FVec F S1x16 .f32 :=
  select (cmpi .eq lanes (broadcast S1x16 (place p))) (broadcast S1x16 (Scalar.ofBits .f32 0xFF800000#32)) p

/-- The numbers left after `k` choices. -/
def left (p : FVec F S1x16 .f32) : ℕ → FVec F S1x16 .f32
  | 0 => p
  | k + 1 => strike (left p k)

/-- The place chosen at round `k`. -/
def placeAt (p : FVec F S1x16 .f32) (k : ℕ) : BitVec 32 := place (left p k)

/-- One value put at slot `k` of eight. -/
def put (k : BitVec 32) (t : FVec F S1x1 .f32) (v : FVec F S1x8 .f32) : FVec F S1x8 .f32 :=
  select (cmpi .eq slots (broadcast S1x8 k))
    (broadcastTo S1x8 (shapeCast S1x1 t shapeCasts_S1x1_S1x1) broadcasts_S1x1_S1x8) v

/-- The eight values chosen. -/
def chosenVals (p : FVec F S1x16 .f32) : FVec F S1x8 .f32 :=
  put 7#32 (top (left p 7)) (put 6#32 (top (left p 6)) (put 5#32 (top (left p 5)) (put 4#32 (top (left p 4))
    (put 3#32 (top (left p 3)) (put 2#32 (top (left p 2)) (put 1#32 (top (left p 1)) (put 0#32 (top (left p 0))
      (broadcast S1x8 (Scalar.ofBits .f32 0x00000000#32)))))))))

/-- The softmax of eight numbers. -/
def soft8 (v : FVec F S1x8 .f32) : FVec F S1x8 .f32 :=
  let e := exp (subf v (broadcastTo S1x8 (shapeCast S1x1 (multiReduction .maximumf [1] S1 v 0xFF800000#32
    reduces_S1x8_S1 (.inl rfl) rfl) shapeCasts_S1_S1x1) broadcasts_S1x1_S1x8))
  divf e (broadcastTo S1x8 (shapeCast S1x1 (multiReduction .add [1] S1 e 0x00000000#32
    reduces_S1x8_S1 (.inl rfl) rfl) shapeCasts_S1_S1x1) broadcasts_S1x1_S1x8)

section
variable (x : Vec F S1x1024 .f32) (w1 : Vec F S1024x512 .f32) (b1 : Vec F S1x512 .f32) (w2 : Vec F S512x16 .f32) (b2 : Vec F S1x16 .f32)

theorem ix1_eq : ix1 x w1 b1 w2 b2 = placeAt (prob x w1 b1 w2 b2) 0 := rfl
theorem ix2_eq : ix2 x w1 b1 w2 b2 = placeAt (prob x w1 b1 w2 b2) 1 := rfl
theorem ix3_eq : ix3 x w1 b1 w2 b2 = placeAt (prob x w1 b1 w2 b2) 2 := rfl
theorem ix4_eq : ix4 x w1 b1 w2 b2 = placeAt (prob x w1 b1 w2 b2) 3 := rfl
theorem ix5_eq : ix5 x w1 b1 w2 b2 = placeAt (prob x w1 b1 w2 b2) 4 := rfl
theorem ix6_eq : ix6 x w1 b1 w2 b2 = placeAt (prob x w1 b1 w2 b2) 5 := rfl
theorem ix7_eq : ix7 x w1 b1 w2 b2 = placeAt (prob x w1 b1 w2 b2) 6 := rfl
theorem ix8_eq : ix8 x w1 b1 w2 b2 = placeAt (prob x w1 b1 w2 b2) 7 := rfl
theorem gates_eq : gates x w1 b1 w2 b2 = soft8 (chosenVals (prob x w1 b1 w2 b2)) := rfl
end

/-! ## One expert -/

/-- The hidden layer: 0.5·h·(1 + erf (h·c)) of `h = x·W + b`. -/
def hidden (x : FVec F S1x1024 .f32) (W : Vec F S1x1024x2048 .f32) (b : Vec F S1x1x2048 .f32) : FVec F S1x2048 .f32 :=
  let h := addf (matmul dot_S1x1024_S1024x2048_S1x2048_1_0_0_1_n_n none x
    (shapeCast S1024x2048 W shapeCasts_S1x1024x2048_S1024x2048 : FVec F S1024x2048 .f32) (constant S1x2048 .f32 0x00000000#32))
    (shapeCast S1x2048 b shapeCasts_S1x1x2048_S1x2048)
  mulf (mulf (broadcast S1x2048 (Scalar.ofBits .f32 0x3F000000#32)) h)
    (addf (broadcast S1x2048 (Scalar.ofBits .f32 0x3F800000#32))
      (erf (mulf h (broadcast S1x2048 (Scalar.ofBits .f32 0x3F3504F3#32)))))

/-- The mean of a row. -/
def rowMean (o : FVec F S1x1024 .f32) : FVec F S1x1 .f32 :=
  divf (shapeCast S1x1 (multiReduction .add [1] S1 o 0x00000000#32 reduces_S1x1024_S1 (.inl rfl) rfl) shapeCasts_S1_S1x1)
    (broadcast S1x1 (Scalar.ofBits .f32 0x44800000#32))

/-- The row normalised, scaled and shifted. -/
def normed (o : FVec F S1x1024 .f32) (lw lb : Vec F S1x1x1024 .f32) : FVec F S1x1024 .f32 :=
  let d := subf o (broadcastTo S1x1024 (rowMean o) broadcasts_S1x1_S1x1024)
  addf (mulf (mulf d (broadcastTo S1x1024 (rsqrt (addf (rowMean (mulf d d)) (broadcast S1x1 (Scalar.ofBits .f32 0x3727C5AC#32))))
      broadcasts_S1x1_S1x1024)) (shapeCast S1x1024 lw shapeCasts_S1x1x1024_S1x1024))
    (shapeCast S1x1024 lb shapeCasts_S1x1x1024_S1x1024)

/-- The second layer. -/
def outer (h : FVec F S1x2048 .f32) (W : Vec F S1x2048x1024 .f32) (b : Vec F S1x1x1024 .f32) : FVec F S1x1024 .f32 :=
  addf (matmul dot_S1x2048_S2048x1024_S1x1024_1_0_0_1_n_n none h
    (shapeCast S2048x1024 W shapeCasts_S1x2048x1024_S2048x1024 : FVec F S2048x1024 .f32) (constant S1x1024 .f32 0x00000000#32))
    (shapeCast S1x1024 b shapeCasts_S1x1x1024_S1x1024)

/-- The six tables' rows of one expert. -/
structure Rows (F : FTy → Type) [FloatOps F] where
  W1 : Vec F S1x1024x2048 .f32
  b1 : Vec F S1x1x2048 .f32
  W2 : Vec F S1x2048x1024 .f32
  b2 : Vec F S1x1x1024 .f32
  lw : Vec F S1x1x1024 .f32
  lb : Vec F S1x1x1024 .f32

/-- One expert's answer. -/
def expert (x : FVec F S1x1024 .f32) (R : Rows F) : FVec F S1x1024 .f32 :=
  normed (outer (hidden x R.W1 R.b1) R.W2 R.b2) R.lw R.lb

/-- An answer weighted by gate `k`, added to what there is. -/
def addTo (g : FVec F S1x8 .f32) (k : ℕ) (h : S1x8.Slices ![0, k] S1x1) (y a : FVec F S1x1024 .f32) : FVec F S1x1024 .f32 :=
  addf a (mulf (broadcastTo S1x1024 (extractStridedSlice S1x1 ![0, k] g h) broadcasts_S1x1_S1x1024) y)

/-- The weighted sum of eight answers. -/
def mixed (g : FVec F S1x8 .f32) (y0 y1 y2 y3 y4 y5 y6 y7 : FVec F S1x1024 .f32) : FVec F S1x1024 .f32 :=
  addTo g 7 slices_S1x8_o0_7_S1x1 y7 (addTo g 6 slices_S1x8_o0_6_S1x1 y6 (addTo g 5 slices_S1x8_o0_5_S1x1 y5
    (addTo g 4 slices_S1x8_o0_4_S1x1 y4 (addTo g 3 slices_S1x8_o0_3_S1x1 y3 (addTo g 2 slices_S1x8_o0_2_S1x1 y2
      (addTo g 1 slices_S1x8_o0_1_S1x1 y1 (addTo g 0 slices_S1x8_o0_0_S1x1 y0
        (broadcast S1x1024 (Scalar.ofBits .f32 0x00000000#32)))))))))

end Cert.KernelIdeal.Hand

end
-- ==== Proof.Loads.lean ====
/- What the kernel loads from its two slots: the row of the table that was last copied to that slot. -/
module

public import proofs.«01_k».proof.Proof.Step
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

/-! ## Any two slots -/

section Slots
variable {Val : EltTy → Type} {κ : Kind} {sp sp' : Space} {e : EltTy} {d d' : Fin 3 → ℕ}

/-- Two windows one row deep, at different rows, share nothing. -/
theorem emb_ne (off off' size : Fin 3 → ℕ) (inb : ∀ a, off a + size a ≤ d a) (inb' : ∀ a, off' a + size a ≤ d a)
    (h1 : size 0 = 1) (hne : off 0 ≠ off' 0) (x : (Rect.unit (s := ⟨3, d⟩) off size inb).shape.Idx)
    (y : (Rect.unit (s := ⟨3, d⟩) off' size inb').shape.Idx) :
    (Rect.unit (s := ⟨3, d⟩) off size inb).emb x ≠ (Rect.unit (s := ⟨3, d⟩) off' size inb').emb y := by
  intro h
  have h0 := congrArg (fun i : (⟨3, d⟩ : Shape).Idx => (i 0 : ℕ)) h
  simp only [Rect.emb_apply] at h0
  have hx : (x 0 : ℕ) < size 0 := (x 0).isLt
  have hy : (y 0 : ℕ) < size 0 := (y 0).isLt
  have h0' : off 0 + 1 * (x 0 : ℕ) = off' 0 + 1 * (y 0 : ℕ) := h0
  omega

/-- A load of one slot does not see what was written to the other. -/
theorem load_other (v : View sig κ sp ⟨3, d⟩ e) (off off' size : Fin 3 → ℕ) (inb : ∀ a, off a + size a ≤ d a)
    (inb' : ∀ a, off' a + size a ≤ d a) {s' : Shape} (hq : s'.numel = (Rect.unit (s := ⟨3, d⟩) off' size inb').shape.numel)
    (f : v.ty.Contents Val) (p : s'.Idx → Val e) (h1 : size 0 = 1) (hne : off 0 ≠ off' 0) :
    v.readAt Val (Rect.unit (s := ⟨3, d⟩) off size inb).toLoadRect
        (((v.slice (Rect.unit (s := ⟨3, d⟩) off' size inb')).reshape s' hq).write Val f p Finset.univ)
      = v.readAt Val (Rect.unit (s := ⟨3, d⟩) off size inb).toLoadRect f := by
  funext x
  refine View.read_congr_at (v := v) (Val := Val) _ (View.write_of_not_mem _ _ _ fun hm => ?_)
  obtain ⟨y, -, hy⟩ := Finset.mem_map.mp hm
  exact emb_ne off off' size inb inb' h1 hne x (Shape.reshapeEquiv hq y) (v.emb.injective hy).symm

/-- A load of the slot just written gives what was written there, laid out as the slot is. -/
theorem load_written (v : View sig κ sp ⟨3, d⟩ e) (off size : Fin 3 → ℕ) (inb : ∀ a, off a + size a ≤ d a) {s' : Shape}
    (hq : s'.numel = (Rect.unit (s := ⟨3, d⟩) off size inb).shape.numel) (f : v.ty.Contents Val) (p : s'.Idx → Val e) :
    v.readAt Val (Rect.unit (s := ⟨3, d⟩) off size inb).toLoadRect
        (((v.slice (Rect.unit (s := ⟨3, d⟩) off size inb)).reshape s' hq).write Val f p Finset.univ)
      = shapeCast ⟨3, size⟩ p hq.symm := by
  have key := View.read_write_univ (v := (v.slice (Rect.unit (s := ⟨3, d⟩) off size inb)).reshape s' hq) (Val := Val) f p
  have := congrArg (fun w => shapeCast (⟨3, size⟩ : Shape) w hq.symm) key
  refine Eq.trans ?_ this
  exact (shapeCast_shapeCast (s := ⟨3, size⟩) (t := s') _ hq hq.symm).symm
end Slots

/-! ## The rows of the tables -/

/-- Row `e` of a table of sixteen. -/
def row {α : Type} {A B : ℕ} (t : (⟨3, ![16, A, B]⟩ : Shape).Idx → α) (e : Fin 16) : (⟨3, ![1, A, B]⟩ : Shape).Idx → α :=
  fun j => t (ValueIdx.ix3 e (j 1) (j 2))

/-- The expert a number names. -/
def pick (n : ℕ) : Fin 16 := ⟨n % 16, Nat.mod_lt _ (by norm_num)⟩

/-- A row of a table, copied into a slot and loaded from there. -/
theorem load_own {Val : EltTy → Type} {κ : Kind} {sp sp' : Space} {e : EltTy} {A B : ℕ} (v : View sig κ sp ⟨3, ![2, A, B]⟩ e)
    (t : View sig κ sp' ⟨3, ![16, A, B]⟩ e) (off off' : Fin 3 → ℕ)
    (inb : ∀ a, off a + (![1, A, B] : Fin 3 → ℕ) a ≤ (![2, A, B] : Fin 3 → ℕ) a)
    (inb' : ∀ a, off' a + (![1, A, B] : Fin 3 → ℕ) a ≤ (![16, A, B] : Fin 3 → ℕ) a) {s' : Shape}
    (hq : s'.numel = (Rect.unit (s := ⟨3, ![2, A, B]⟩) off ![1, A, B] inb).shape.numel)
    (hq' : s'.numel = (Rect.unit (s := ⟨3, ![16, A, B]⟩) off' ![1, A, B] inb').shape.numel)
    (f : v.ty.Contents Val) (g : t.ty.Contents Val) :
    v.readAt Val (Rect.unit (s := ⟨3, ![2, A, B]⟩) off ![1, A, B] inb).toLoadRect
        (((v.slice (Rect.unit (s := ⟨3, ![2, A, B]⟩) off ![1, A, B] inb)).reshape s' hq).write Val f
          (ReadAs.same.apply (((t.slice (Rect.unit (s := ⟨3, ![16, A, B]⟩) off' ![1, A, B] inb')).reshape s' hq').read Val g)) Finset.univ)
      = row (t.read Val g) (pick (off' 0)) := by
  have h0 := inb' 0; have h1 := inb' 1; have h2 := inb' 2
  simp only [Matrix.cons_val_zero, Matrix.cons_val_one, Matrix.cons_val] at h0 h1 h2
  refine (load_written v off _ inb hq f _).trans ?_
  refine (shapeCast_shapeCast (s := ⟨3, ![1, A, B]⟩) (t := s')
    ((t.slice (Rect.unit (s := ⟨3, ![16, A, B]⟩) off' ![1, A, B] inb')).read Val g) hq' hq.symm).trans ?_
  funext j
  refine congrArg (t.read Val g) (funext fun a => Fin.ext ?_)
  have hj : (j 0 : ℕ) = 0 := by have : (j 0 : ℕ) < 1 := (j 0).isLt; omega
  match a with
  | ⟨0, _⟩ =>
    show off' 0 + 1 * (j 0 : ℕ) = off' 0 % 16
    rw [hj, Nat.mod_eq_of_lt (by omega)]; omega
  | ⟨1, _⟩ => show off' 1 + 1 * (j 1 : ℕ) = (j 1 : ℕ); omega
  | ⟨2, _⟩ => show off' 2 + 1 * (j 2 : ℕ) = (j 2 : ℕ); omega

variable {F : FTy → Type} [FloatOps F]

/-- The rows of the expert a word names. -/
def rowsOf (c : Dev nD) (fh0 : HbBuf (F := F) c hbM0) (fh1 : HbBuf (F := F) c hbM1) (fh2 : HbBuf (F := F) c hbM2)
    (fh3 : HbBuf (F := F) c hbM3) (fh4 : HbBuf (F := F) c hbM4) (fh5 : HbBuf (F := F) c hbM5) (w : BitVec 32) : Rows F where
  W1 := row (hbM0.view.read (Elt F) fh0) (pick w.toNat)
  b1 := row (hbM1.view.read (Elt F) fh1) (pick w.toNat)
  W2 := row (hbM2.view.read (Elt F) fh2) (pick w.toNat)
  b2 := row (hbM3.view.read (Elt F) fh3) (pick w.toNat)
  lw := row (hbM4.view.read (Elt F) fh4) (pick w.toNat)
  lb := row (hbM5.view.read (Elt F) fh5) (pick w.toNat)

end Cert.KernelIdeal.Hand

end
-- ==== Proof.Value.lean ====
/- What the kernel writes: the probabilities, and the weighted sum of the answers of the eight experts chosen,
   whatever the scratch held before. -/
module

public import proofs.«01_k».proof.Proof.Loads

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The second result, from the blocks loaded and the tables. -/
def answer (x : Vec F S1x1024 .f32) (w1 : Vec F S1024x512 .f32) (b1 : Vec F S1x512 .f32) (w2 : Vec F S512x16 .f32) (b2 : Vec F S1x16 .f32)
    (T : BitVec 32 → Rows F) : FVec F S1x1024 .f32 :=
  let p := prob x w1 b1 w2 b2
  let y := fun k => expert (k0_pay2 x) (T (placeAt p k))
  mixed (soft8 (chosenVals p)) (y 0) (y 1) (y 2) (y 3) (y 4) (y 5) (y 6) (y 7)

/-- The weighted sum depends on the eight answers alone. -/
theorem mixed_congr (g : FVec F S1x8 .f32) {y0 y1 y2 y3 y4 y5 y6 y7 z0 z1 z2 z3 z4 z5 z6 z7 : FVec F S1x1024 .f32}
    (h0 : y0 = z0) (h1 : y1 = z1) (h2 : y2 = z2) (h3 : y3 = z3) (h4 : y4 = z4) (h5 : y5 = z5) (h6 : y6 = z6) (h7 : y7 = z7) :
    mixed g y0 y1 y2 y3 y4 y5 y6 y7 = mixed g z0 z1 z2 z3 z4 z5 z6 z7 := by
  rw [h0, h1, h2, h3, h4, h5, h6, h7]

/-- A normalised row depends on the row, the scale and the shift alone. -/
theorem normed_congr {o o' : FVec F S1x1024 .f32} {lw lb lw' lb' : Vec F S1x1x1024 .f32} (h : o = o') (h1 : lw = lw') (h2 : lb = lb') :
    normed o lw lb = normed o' lw' lb' := by subst h h1 h2; rfl

/-- The second layer depends on its input, its weights and its shift alone. -/
theorem outer_congr {h h' : FVec F S1x2048 .f32} {W W' : Vec F S1x2048x1024 .f32} {b b' : Vec F S1x1x1024 .f32} (e : h = h') (e1 : W = W')
    (e2 : b = b') : outer h W b = outer h' W' b' := by subst e e1 e2; rfl

/-- The hidden layer depends on its weights and its shift alone. -/
theorem hidden_congr (x : FVec F S1x1024 .f32) {W W' : Vec F S1x1024x2048 .f32} {b b' : Vec F S1x1x2048 .f32} (e1 : W = W') (e2 : b = b') :
    hidden x W b = hidden x W' b' := by subst e1 e2; rfl

/-- The probabilities are written whole. -/
theorem run_fst (c : Dev nD) (arg0 : Memref sig .tc .vmem S1x1024 .f32) (harg0 : arg0.IsWhole) (arg1 : Memref sig .tc .vmem S1024x512 .f32) (harg1 : arg1.IsWhole) (arg2 : Memref sig .tc .vmem S1x512 .f32) (harg2 : arg2.IsWhole) (arg3 : Memref sig .tc .vmem S512x16 .f32) (harg3 : arg3.IsWhole) (arg4 : Memref sig .tc .vmem S1x16 .f32) (harg4 : arg4.IsWhole) (arg11 : Memref sig .tc .vmem S1x16 .f32) (harg11 : arg11.IsWhole) (arg12 : Memref sig .tc .vmem S1x1024 .f32) (harg12 : arg12.IsWhole)
    (x0 : Vec F S1x1024 .f32) (x1 : Vec F S1024x512 .f32) (x2 : Vec F S1x512 .f32) (x3 : Vec F S512x16 .f32) (x4 : Vec F S1x16 .f32)
    (fh0 : HbBuf (F := F) c hbM0) (fh1 : HbBuf (F := F) c hbM1) (fh2 : HbBuf (F := F) c hbM2) (fh3 : HbBuf (F := F) c hbM3) (fh4 : HbBuf (F := F) c hbM4) (fh5 : HbBuf (F := F) c hbM5)
    (fs0 : HbBuf (F := F) c scM0) (fs1 : HbBuf (F := F) c scM1) (fs2 : HbBuf (F := F) c scM2) (fs3 : HbBuf (F := F) c scM3) (fs4 : HbBuf (F := F) c scM4) (fs5 : HbBuf (F := F) c scM5)
    (c1 : k0_chk1 (ix1 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c2 : k0_chk2 (ix2 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c3 : k0_chk3 (ix3 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c4 : k0_chk4 (ix4 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c5 : k0_chk5 (ix5 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c6 : k0_chk6 (ix6 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c7 : k0_chk7 (ix7 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c8 : k0_chk8 (ix8 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4)))) :
    (kernelRun c arg0 harg0 arg1 harg1 arg2 harg2 arg3 harg3 arg4 harg4 arg11 harg11 arg12 harg12 x0 x1 x2 x3 x4 fh0 fh1 fh2 fh3 fh4 fh5 fs0 fs1 fs2 fs3 fs4 fs5 c1 c2 c3 c4 c5 c6 c7 c8).1 = [⟨Rect.unit (s := S1x16) ![0, 0] S1x16.size inb_S1x16_S1x16_0_0, prob
      (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))⟩] := rfl

set_option maxHeartbeats 4000000 in
/-- The second result is written whole, and is the weighted sum. -/
theorem run_snd (c : Dev nD) (arg0 : Memref sig .tc .vmem S1x1024 .f32) (harg0 : arg0.IsWhole) (arg1 : Memref sig .tc .vmem S1024x512 .f32) (harg1 : arg1.IsWhole) (arg2 : Memref sig .tc .vmem S1x512 .f32) (harg2 : arg2.IsWhole) (arg3 : Memref sig .tc .vmem S512x16 .f32) (harg3 : arg3.IsWhole) (arg4 : Memref sig .tc .vmem S1x16 .f32) (harg4 : arg4.IsWhole) (arg11 : Memref sig .tc .vmem S1x16 .f32) (harg11 : arg11.IsWhole) (arg12 : Memref sig .tc .vmem S1x1024 .f32) (harg12 : arg12.IsWhole)
    (x0 : Vec F S1x1024 .f32) (x1 : Vec F S1024x512 .f32) (x2 : Vec F S1x512 .f32) (x3 : Vec F S512x16 .f32) (x4 : Vec F S1x16 .f32)
    (fh0 : HbBuf (F := F) c hbM0) (fh1 : HbBuf (F := F) c hbM1) (fh2 : HbBuf (F := F) c hbM2) (fh3 : HbBuf (F := F) c hbM3) (fh4 : HbBuf (F := F) c hbM4) (fh5 : HbBuf (F := F) c hbM5)
    (fs0 : HbBuf (F := F) c scM0) (fs1 : HbBuf (F := F) c scM1) (fs2 : HbBuf (F := F) c scM2) (fs3 : HbBuf (F := F) c scM3) (fs4 : HbBuf (F := F) c scM4) (fs5 : HbBuf (F := F) c scM5)
    (c1 : k0_chk1 (ix1 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c2 : k0_chk2 (ix2 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c3 : k0_chk3 (ix3 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c4 : k0_chk4 (ix4 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c5 : k0_chk5 (ix5 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c6 : k0_chk6 (ix6 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c7 : k0_chk7 (ix7 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))))
    (c8 : k0_chk8 (ix8 (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4)))) :
    (kernelRun c arg0 harg0 arg1 harg1 arg2 harg2 arg3 harg3 arg4 harg4 arg11 harg11 arg12 harg12 x0 x1 x2 x3 x4 fh0 fh1 fh2 fh3 fh4 fh5 fs0 fs1 fs2 fs3 fs4 fs5 c1 c2 c3 c4 c5 c6 c7 c8).2.1 = [⟨Rect.unit (s := S1x1024) ![0, 0] S1x1024.size inb_S1x1024_S1x1024_0_0, answer
      (arg0.view.readAt (Elt F) (Rect.unit (s := S1x1024) ![0, 0] S1x1024.size inb_S1x1024_S1x1024_0_0).toLoadRect (harg0.unread x0))
      (arg1.view.readAt (Elt F) (Rect.unit (s := S1024x512) ![0, 0] S1024x512.size inb_S1024x512_S1024x512_0_0).toLoadRect (harg1.unread x1))
      (arg2.view.readAt (Elt F) (Rect.unit (s := S1x512) ![0, 0] S1x512.size inb_S1x512_S1x512_0_0).toLoadRect (harg2.unread x2))
      (arg3.view.readAt (Elt F) (Rect.unit (s := S512x16) ![0, 0] S512x16.size inb_S512x16_S512x16_0_0).toLoadRect (harg3.unread x3))
      (arg4.view.readAt (Elt F) (Rect.unit (s := S1x16) ![0, 0] S1x16.size inb_S1x16_S1x16_0_0).toLoadRect (harg4.unread x4))
      (rowsOf c fh0 fh1 fh2 fh3 fh4 fh5)⟩] := by
  refine congrArg (fun v => [(⟨_, v⟩ : View.Piece (Elt F) S1x1024 .f32)]) ?_
  refine mixed_congr (F := F) _ ?_ ?_ ?_ ?_ ?_ ?_ ?_ ?_ <;> refine normed_congr (F := F) ?_ ?_ ?_
  all_goals try simp only [kernelRun.sl.r_20, k0_pay45, kernelRun.sl.cst_411]
  all_goals try refine outer_congr (F := F) ?_ ?_ ?_
  all_goals try refine hidden_congr (F := F) _ ?_ ?_
  all_goals first
    | exact (load_other (Val := Elt F) _ _ _ _ _ _ _ _ _ rfl (by decide)).trans (load_own (Val := Elt F) _ _ _ _ _ _ _ _ _ _)
    | exact load_own (Val := Elt F) _ _ _ _ _ _ _ _ _ _

end Cert.KernelIdeal.Hand
-- ==== Proof.Triple.lean ====
/- The body's triple from the blocks themselves: the windows owned at their blocks and the choices in bounds, the kernel
   leaves the probabilities and the answer in its two results. -/
module

public import proofs.«01_k».proof.Proof.Value
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- A load of a whole memref holding a vector is the vector. -/
theorem whole_load {sp : Space} {S : Shape} {e : EltTy} (M : Memref sig .tc sp S e) (hM : M.IsWhole) (x : Vec F S e)
    {off : Fin S.rank → ℕ} (inb : ∀ a, off a + S.size a ≤ S.size a) :
    M.view.readAt (Elt F) (Rect.unit (s := S) off S.size inb).toLoadRect (hM.unread x) = x := by
  rw [View.readAt_full]; exact hM.read_unread x

set_option maxHeartbeats 4000000 in
/-- The body, on its operands. -/
theorem bodyTriple (c : Dev nD) (arg0 : Memref sig .tc .vmem S1x1024 .f32) (harg0 : arg0.IsWhole) (arg1 : Memref sig .tc .vmem S1024x512 .f32) (harg1 : arg1.IsWhole) (arg2 : Memref sig .tc .vmem S1x512 .f32) (harg2 : arg2.IsWhole) (arg3 : Memref sig .tc .vmem S512x16 .f32) (harg3 : arg3.IsWhole) (arg4 : Memref sig .tc .vmem S1x16 .f32) (harg4 : arg4.IsWhole) (arg11 : Memref sig .tc .vmem S1x16 .f32) (harg11 : arg11.IsWhole) (arg12 : Memref sig .tc .vmem S1x1024 .f32) (harg12 : arg12.IsWhole)
    (x0 : Vec F S1x1024 .f32) (x1 : Vec F S1024x512 .f32) (x2 : Vec F S1x512 .f32) (x3 : Vec F S512x16 .f32) (x4 : Vec F S1x16 .f32)
    (hC : Chosen x0 x1 x2 x3 x4)
    (fh0 : HbBuf (F := F) c hbM0) (fh1 : HbBuf (F := F) c hbM1) (fh2 : HbBuf (F := F) c hbM2) (fh3 : HbBuf (F := F) c hbM3) (fh4 : HbBuf (F := F) c hbM4) (fh5 : HbBuf (F := F) c hbM5)
    (W : Waits sig Unit) (K : PUnit → sProp 𝕄) :
    iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ (∃ d, owns (c : Thread nD τ) arg11 fullShare d)
            ∗ (∃ d, owns (c : Thread nD τ) arg12 fullShare d)
            ∗ (∃ f, hbPt c scM0 f)
            ∗ (∃ f, hbPt c scM1 f)
            ∗ (∃ f, hbPt c scM2 f)
            ∗ (∃ f, hbPt c scM3 f)
            ∗ (∃ f, hbPt c scM4 f)
            ∗ (∃ f, hbPt c scM5 f)
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ hbPt c hbM0 fh0
            ∗ hbPt c hbM1 fh1
            ∗ hbPt c hbM2 fh2
            ∗ hbPt c hbM3 fh3
            ∗ hbPt c hbM4 fh4
            ∗ hbPt c hbM5 fh5
            ∗ owes (c : Thread nD τ) 0 W
            ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg11 fullShare (prob x0 x1 x2 x3 x4)
            ∗ owns (c : Thread nD τ) arg12 fullShare (answer x0 x1 x2 x3 x4 (rowsOf c fh0 fh1 fh2 fh3 fh4 fh5))
            ∗ (∃ f, hbPt c scM0 f)
            ∗ (∃ f, hbPt c scM1 f)
            ∗ (∃ f, hbPt c scM2 f)
            ∗ (∃ f, hbPt c scM3 f)
            ∗ (∃ f, hbPt c scM4 f)
            ∗ (∃ f, hbPt c scM5 f)
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ hbPt c hbM0 fh0
            ∗ hbPt c hbM1 fh1
            ∗ hbPt c hbM2 fh2
            ∗ hbPt c hbM3 fh3
            ∗ hbPt c hbM4 fh4
            ∗ hbPt c hbM5 fh5
            ∗ (∃ W', owes (c : Thread nD τ) 0 W')) -∗ K ⟨⟩))
      ⊢ wp frame (wpE (defs₀ (F := F)) Variants.none c none) Set.univ
          (cc0__fused_body arg0 harg0 arg1 harg1 arg2 harg2 arg3 harg3 arg4 harg4 hbM0 (Memref.isWhole_whole _) hbM1 (Memref.isWhole_whole _) hbM2 (Memref.isWhole_whole _) hbM3 (Memref.isWhole_whole _) hbM4 (Memref.isWhole_whole _) hbM5 (Memref.isWhole_whole _) arg11 harg11 arg12 harg12 scM0 (Memref.isWhole_whole _) scM1 (Memref.isWhole_whole _) scM2 (Memref.isWhole_whole _) scM3 (Memref.isWhole_whole _) scM4 (Memref.isWhole_whole _) scM5 (Memref.isWhole_whole _) cc0_scratch6) K := by
  have e0 := whole_load arg0 harg0 x0 inb_S1x1024_S1x1024_0_0
  have e1 := whole_load arg1 harg1 x1 inb_S1024x512_S1024x512_0_0
  have e2 := whole_load arg2 harg2 x2 inb_S1x512_S1x512_0_0
  have e3 := whole_load arg3 harg3 x3 inb_S512x16_S512x16_0_0
  have e4 := whole_load arg4 harg4 x4 inb_S1x16_S1x16_0_0
  have hC : Chosen (arg0.view.readAt (Elt F) (Rect.unit (s := S1x1024) ![0, 0] S1x1024.size inb_S1x1024_S1x1024_0_0).toLoadRect (harg0.unread x0)) (arg1.view.readAt (Elt F) (Rect.unit (s := S1024x512) ![0, 0] S1024x512.size inb_S1024x512_S1024x512_0_0).toLoadRect (harg1.unread x1)) (arg2.view.readAt (Elt F) (Rect.unit (s := S1x512) ![0, 0] S1x512.size inb_S1x512_S1x512_0_0).toLoadRect (harg2.unread x2)) (arg3.view.readAt (Elt F) (Rect.unit (s := S512x16) ![0, 0] S512x16.size inb_S512x16_S512x16_0_0).toLoadRect (harg3.unread x3)) (arg4.view.readAt (Elt F) (Rect.unit (s := S1x16) ![0, 0] S1x16.size inb_S1x16_S1x16_0_0).toLoadRect (harg4.unread x4)) := by rw [e0, e1, e2, e3, e4]; exact hC
  iintro ⟨HI0, HI1, HI2, HI3, HI4, HA, HB, ⟨%fs0, HS0⟩, ⟨%fs1, HS1⟩, ⟨%fs2, HS2⟩, ⟨%fs3, HS3⟩, ⟨%fs4, HS4⟩, ⟨%fs5, HS5⟩, Hq7, Hq8, Hq9, Hq10, Hq11, Hq12, Hq13, Hq14, Hq15, Hq16, Hq17, Hq18, Hh0, Hh1, Hh2, Hh3, Hh4, Hh5, HW, Hk⟩
  have r1 := run_fst c arg0 harg0 arg1 harg1 arg2 harg2 arg3 harg3 arg4 harg4 arg11 harg11 arg12 harg12 x0 x1 x2 x3 x4 fh0 fh1 fh2 fh3 fh4 fh5 fs0 fs1 fs2 fs3 fs4 fs5 hC.c1 hC.c2 hC.c3 hC.c4 hC.c5 hC.c6 hC.c7 hC.c8
  have r2 := run_snd c arg0 harg0 arg1 harg1 arg2 harg2 arg3 harg3 arg4 harg4 arg11 harg11 arg12 harg12 x0 x1 x2 x3 x4 fh0 fh1 fh2 fh3 fh4 fh5 fs0 fs1 fs2 fs3 fs4 fs5 hC.c1 hC.c2 hC.c3 hC.c4 hC.c5 hC.c6 hC.c7 hC.c8
  generalize kernelRun c arg0 harg0 arg1 harg1 arg2 harg2 arg3 harg3 arg4 harg4 arg11 harg11 arg12 harg12 x0 x1 x2 x3 x4 fh0 fh1 fh2 fh3 fh4 fh5 fs0 fs1 fs2 fs3 fs4 fs5 hC.c1 hC.c2 hC.c3 hC.c4 hC.c5 hC.c6 hC.c7 hC.c8 = R at r1 r2
  obtain ⟨L1, L2, k⟩ := R
  replace k := k W K
  dsimp only at r1 r2
  subst r1 r2
  rw [e0, e1, e2, e3, e4] at k
  unfold owns
  icases HI0 with ⟨%g0, %hg0, HI0⟩
  obtain rfl := harg0.eq_unread hg0
  icases HI1 with ⟨%g1, %hg1, HI1⟩
  obtain rfl := harg1.eq_unread hg1
  icases HI2 with ⟨%g2, %hg2, HI2⟩
  obtain rfl := harg2.eq_unread hg2
  icases HI3 with ⟨%g3, %hg3, HI3⟩
  obtain rfl := harg3.eq_unread hg3
  icases HI4 with ⟨%g4, %hg4, HI4⟩
  obtain rfl := harg4.eq_unread hg4
  iapply k
  isplitl [HI0]; · iexact HI0
  isplitl [HI1]; · iexact HI1
  isplitl [HI2]; · iexact HI2
  isplitl [HI3]; · iexact HI3
  isplitl [HI4]; · iexact HI4
  isplitl [HA]; · unfold owns; iexact HA
  isplitl [HB]; · unfold owns; iexact HB
  isplitl [HS0]; · iexact HS0
  isplitl [HS1]; · iexact HS1
  isplitl [HS2]; · iexact HS2
  isplitl [HS3]; · iexact HS3
  isplitl [HS4]; · iexact HS4
  isplitl [HS5]; · iexact HS5
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨HI0, HI1, HI2, HI3, HI4, ⟨%fA, HA⟩, ⟨%fB, HB⟩, HS0, HS1, HS2, HS3, HS4, HS5, Hq7, Hq8, Hq9, Hq10, Hq11, Hq12, Hq13, Hq14, Hq15, Hq16, Hq17, Hq18, Hh0, Hh1, Hh2, Hh3, Hh4, Hh5, HW⟩
  iapply Hk
  isplitl [HI0]
  · iexists _; isplitr; swap; · iexact HI0
    ipureintro; exact harg0.read_unread x0
  isplitl [HI1]
  · iexists _; isplitr; swap; · iexact HI1
    ipureintro; exact harg1.read_unread x1
  isplitl [HI2]
  · iexists _; isplitr; swap; · iexact HI2
    ipureintro; exact harg2.read_unread x2
  isplitl [HI3]
  · iexists _; isplitr; swap; · iexact HI3
    ipureintro; exact harg3.read_unread x3
  isplitl [HI4]
  · iexists _; isplitr; swap; · iexact HI4
    ipureintro; exact harg4.read_unread x4
  isplitl [HA]
  · iexists _; isplitr; swap; · iexact HA
    ipureintro; exact View.read_writes_full _ _ _ _ _
  isplitl [HB]
  · iexists _; isplitr; swap; · iexact HB
    ipureintro; exact View.read_writes_full _ _ _ _ _
  isplitl [HS0]; · iexact HS0
  isplitl [HS1]; · iexact HS1
  isplitl [HS2]; · iexact HS2
  isplitl [HS3]; · iexact HS3
  isplitl [HS4]; · iexact HS4
  isplitl [HS5]; · iexact HS5
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  iexact HW

end Cert.KernelIdeal.Hand

end
-- ==== Proof.Run.lean ====
/- The run of the whole program: the body at the one point of the grid of no axis, the launch with the six tables and the twelve
   cells handed to the body, the reshapes before and after, and what the arrays hold at the end. -/
module

public import proofs.«01_k».proof.Proof.Triple
public import proofs.«01_k».proof.Proof.Gen.KernelIdeal.Frame
public import Idealize.ShloMosaic.Lib.Pipeline.Frame
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The cells and the tables that the body moves itself -/

abbrev osem0 : Fin 12 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11] (by decide) (by decide)]; rfl

/-- The experts' tables: unscoped, and no window's array. -/
def H0 : Finset (Ref sig .tc) := {main_arg5, main_call0_v3, main_arg7, main_call0_v4, main_call0_v5, main_call0_v6}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM0 (V m c main_arg5) ∗ hbPt c hbM1 (V m c main_call0_v3) ∗ hbPt c hbM2 (V m c main_arg7) ∗ hbPt c hbM3 (V m c main_call0_v4) ∗ hbPt c hbM4 (V m c main_call0_v5) ∗ hbPt c hbM5 (V m c main_call0_v6)) := by
  rw [BI.bigSep_eq_bigSepL_of_eq [main_arg5, main_call0_v3, main_arg7, main_call0_v4, main_call0_v5, main_call0_v6] (by decide) (by decide)]; rfl

/-- The invariant between the point's ends: the scratch at some contents, the generator register at some state, the cells at
    zero, the tables at their contents at the launch. -/
theorem PhiD0_eq (c : Dev nD) :
    (Pipeline.ΦD osem0 spec0 H0 (V m) c : sProp 𝕄)
      = iprop(iprop((∃ f, hbPt c scM0 f) ∗ (∃ f, hbPt c scM1 f) ∗ (∃ f, hbPt c scM2 f) ∗ (∃ f, hbPt c scM3 f) ∗ (∃ f, hbPt c scM4 f) ∗ (∃ f, hbPt c scM5 f)) ∗ (∃ r, prngReg c r)
          ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop(hbPt c hbM0 (V m c main_arg5) ∗ hbPt c hbM1 (V m c main_call0_v3) ∗ hbPt c hbM2 (V m c main_arg7) ∗ hbPt c hbM3 (V m c main_call0_v4) ∗ hbPt c hbM4 (V m c main_call0_v5) ∗ hbPt c hbM5 (V m c main_call0_v6))) := by
  rw [Pipeline.ΦD_eq, scopedRest0_eq, ownSems00_eq, hbmPts0_eq]; try rfl

/-! ## The proof data and the body obligation -/

/-- Core `c`'s row table: expert `w`'s rows of the six tables. -/
abbrev tables (c : Dev nD) : BitVec 32 → Rows F := rowsOf c (V m c main_arg5) (V m c main_call0_v3) (V m c main_arg7) (V m c main_call0_v4) (V m c main_call0_v5) (V m c main_call0_v6)

/-- The probabilities and the answer, from the blocks at the point. -/
abbrev probAt (c : Dev nD) (t : Fin cfg0.N) : Vec F S1x16 .f32 := prob (iblk m c 0 t) (iblk m c 1 t) (iblk m c 2 t) (iblk m c 3 t) (iblk m c 4 t)
abbrev answerAt (c : Dev nD) (t : Fin cfg0.N) : Vec F S1x1024 .f32 := answer (iblk m c 0 t) (iblk m c 1 t) (iblk m c 2 t) (iblk m c 3 t) (iblk m c 4 t) (tables m c)

/-- The proof data on core `c`: the inputs' blocks left in place, the two results at what the body computes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => probAt m c t
    | ⟨6, _⟩ => answerAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = probAt m c t := by dsimp only [dats]
theorem after_6 (c : Dev nD) (t : Fin cfg0.N) : (dats m 0 c).after 6 t = answerAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at the point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The choices are in bounds at the blocks of every core. -/
def AllChosen : Prop := ∀ (c : Dev nD) (t : Fin cfg0.N), Chosen (F := F) (iblk m c 0 t) (iblk m c 1 t) (iblk m c 2 t) (iblk m c 3 t) (iblk m c 4 t)

variable (hC : AllChosen m)
include hC

set_option maxHeartbeats 4000000 in
/-- The body at the point: the invariant opened, the body's triple, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    after_0, after_1, after_2, after_3, after_4, after_5, after_6]
  simp only [before_0, before_1, before_2, before_3, before_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5⟩, Hg, ⟨Hq7, Hq8, Hq9, Hq10, Hq11, Hq12, Hq13, Hq14, Hq15, Hq16, Hq17, Hq18⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (bodyTriple c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (iblk m c 0 t) (iblk m c 1 t) (iblk m c 2 t) (iblk m c 3 t) (iblk m c 4 t) (hC c t) (V m c main_arg5) (V m c main_call0_v3) (V m c main_arg7) (V m c main_call0_v4) (V m c main_call0_v5) (V m c main_call0_v6) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, H2, H3, H4, H5, H6, HS0, HS1, HS2, HS3, HS4, HS5, Hq7, Hq8, Hq9, Hq10, Hq11, Hq12, Hq13, Hq14, Hq15, Hq16, Hq17, Hq18, Hh0, Hh1, Hh2, Hh3, Hh4, Hh5, ⟨%W', HW⟩⟩
  isplitl [HS0 HS1 HS2 HS3 HS4 HS5 Hg Hq7 Hq8 Hq9 Hq10 Hq11 Hq12 Hq13 Hq14 Hq15 Hq16 Hq17 Hq18 Hh0 Hh1 Hh2 Hh3 Hh4 Hh5]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]; · iexact Hg
    isplitl [Hq7 Hq8 Hq9 Hq10 Hq11 Hq12 Hq13 Hq14 Hq15 Hq16 Hq17 Hq18]
    · isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [Hh0]; · iexact Hh0
    isplitl [Hh1]; · iexact Hh1
    isplitl [Hh2]; · iexact Hh2
    isplitl [Hh3]; · iexact Hh3
    isplitl [Hh4]; · iexact Hh4
    iexact Hh5
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

omit hC in
/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hC c t) rfl .rfl fun _ => .rfl

/-! ## The launch -/

omit hC in
set_option maxHeartbeats 800000 in
theorem hmain : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

omit hC in
/-- The two reshapes after the call touch none of the tables. -/
theorem sfx_subBut : ∀ ops ∈ [hostOps1 (F := F)], ∀ op ∈ ops, op.bufs ⊆ Pipeline.tailRefsBut (τ := τ) sig Pipeline.Prefetch.none spec0 H0 := by
  intro ops hops op hop
  obtain rfl := List.mem_singleton.1 hops
  refine Pipeline.sub_tailRefsBut Pipeline.Prefetch.none spec0 H0 op ((List.forall_iff_forall_mem.1 hostOps1_sub) op hop) (fun k => k.elim0) ?_
  simp only [hostOps1, List.mem_cons, List.mem_nil_iff, or_false] at hop
  intro b hb
  have hne := (by decide : ∀ b ∈ H0, b ≠ main_call0_v7_1 ∧ b ≠ main_call0_v7_0 ∧ b ≠ main_v0_0 ∧ b ≠ main_v0_1) b hb
  rcases hop with rfl | rfl
  · rw [StableHlo.reshape_bufs]
    simp only [Finset.mem_insert, Finset.mem_singleton, not_or]
    exact ⟨StableHlo.devRef_ne_of_ne hne.1, StableHlo.devRef_ne_of_ne hne.2.2.1⟩
  · rw [StableHlo.reshape_bufs]
    simp only [Finset.mem_insert, Finset.mem_singleton, not_or]
    exact ⟨StableHlo.devRef_ne_of_ne hne.2.1, StableHlo.devRef_ne_of_ne hne.2.2.2⟩

set_option backward.isDefEq.respectTransparency.types false in
/-- The run from any memory: it ends with every array at its final contents and every cell at zero. -/
theorem run_main : θ_run (defs (F := F)) (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hC c).loose) (hshare := fun c => (dats m 0 c).share_full fun _ => rfl)
    (howed := fun _ _ => rfl) (V₀ := V0 m) (opss := [hostOps1]) (hsub := sfx_subBut) (hfresh := sfx_fresh) (hkeep := sfx_keeps)
    (hmain := hmain m) (hA := A_eq m) (hin := fun _ => .rfl) (hout := fun _ => .rfl)

end Cert.KernelIdeal.Hand

end
-- ==== Proof.Choice.lean ====
/- The choice of an expert over the extended reals: the first of the lanes that hold the largest number. So the
   word chosen is below sixteen, and every expert read is in its table. -/
module

public import proofs.«01_k».proof.Proof.Run
public import Idealize.ShloMosaic.Lib.Pointwise
public import Idealize.ShloMosaic.PureOps.Ideal.Laws
public import Idealize.ShloMosaic.Lib.ValueIdxCoords

@[expose] public section

set_option maxRecDepth 16384

noncomputable section

namespace Cert.KernelIdeal.Choice

open Cert.KernelIdeal Cert.KernelIdeal.Gen
open Idealize.ShloMosaic Idealize.ShloMosaic.TcCoe

/-! ## Folds of a largest and of a least -/

theorem fold_minsi {ι : Type} [DecidableEq ι] (s : Finset ι) (f : ι → BitVec 32) (b : BitVec 32) :
    (s.fold IntOp.minsi b f = b ∨ ∃ i ∈ s, s.fold IntOp.minsi b f = f i) ∧ (s.fold IntOp.minsi b f).toInt ≤ b.toInt ∧
      ∀ i ∈ s, (s.fold IntOp.minsi b f).toInt ≤ (f i).toInt := by
  induction s using Finset.induction_on with
  | empty => exact ⟨.inl rfl, le_refl _, fun i hi => absurd hi (Finset.notMem_empty i)⟩
  | insert a s ha ih =>
    rw [Finset.fold_insert ha]
    obtain ⟨h1, h2, h3⟩ := ih
    unfold IntOp.minsi
    by_cases hlt : (f a).slt (s.fold IntOp.minsi b f) = true
    · have hlt' : (f a).toInt < (s.fold IntOp.minsi b f).toInt := by
        rw [BitVec.slt, decide_eq_true_eq] at hlt; exact hlt
      unfold IntOp.minsi at hlt hlt' h1 h2 h3
      simp only [hlt, if_true]
      refine ⟨.inr ⟨a, Finset.mem_insert_self _ _, rfl⟩, by omega, fun i hi => ?_⟩
      rcases Finset.mem_insert.mp hi with rfl | hi'
      · exact le_refl _
      · have := h3 i hi'; omega
    · have hlt' : (s.fold IntOp.minsi b f).toInt ≤ (f a).toInt := by
        rw [BitVec.slt, decide_eq_true_eq] at hlt; omega
      unfold IntOp.minsi at hlt hlt' h1 h2 h3
      simp only [hlt]
      refine ⟨?_, h2, fun i hi => ?_⟩
      · rcases h1 with h | ⟨i, hi, h⟩
        · exact .inl h
        · exact .inr ⟨i, Finset.mem_insert_of_mem hi, h⟩
      · rcases Finset.mem_insert.mp hi with rfl | hi'
        · exact hlt'
        · exact h3 i hi'

theorem fold_max {ι : Type} [DecidableEq ι] (s : Finset ι) (f : ι → EReal) (hs : s.Nonempty) :
    (∃ i ∈ s, s.fold max ⊥ f = f i) ∧ ∀ i ∈ s, f i ≤ s.fold max ⊥ f := by
  refine ⟨?_, fun i hi => (Finset.le_fold_max _).mpr (.inr ⟨i, hi, le_refl _⟩)⟩
  obtain ⟨i, hi, h⟩ := Finset.exists_max_image s f hs
  refine ⟨i, hi, le_antisymm ((Finset.fold_max_le _).mpr ⟨bot_le, h⟩) ((Finset.le_fold_max _).mpr (.inr ⟨i, hi, le_refl _⟩))⟩

theorem negInf_eq : FloatOps.ofBits (F := Ideal) .f32 0xFF800000#32 = (⊥ : EReal) := by
  show Ideal.ofBits .f32 0xFF800000#32 = ⊥
  simp [Ideal.ofBits, Ideal.ieee]

/-! ## The first of the largest -/

/-- The place of a lane. -/
abbrev lane (a : Fin 16) : S1x16.Idx := ix2 (0 : Fin 1) a

theorem eq_lane (i : S1x16.Idx) : i = lane (i 1) := by
  funext d
  match d with
  | ⟨0, _⟩ => exact Subsingleton.elim (α := Fin 1) _ _
  | ⟨1, _⟩ => rfl

theorem top_eq (p : FVec Ideal S1x16 .f32) (o : S1x1.Idx) : Hand.top p o = (Finset.univ : Finset S1x16.Idx).fold max ⊥ p := by
  refine (multiReduction_maximumf_eq_fold p 0xFF800000#32 reduces_S1x16_S1 (.inl rfl) rfl _).trans ?_
  rw [Finset.filter_true_of_mem]
  · exact congrArg (fun b => Finset.fold max b p Finset.univ) negInf_eq
  · intro i _
    funext d
    match d with
    | ⟨0, _⟩ => exact Subsingleton.elim (α := Fin 1) _ _

/-- `a` is the first of the lanes that hold the largest number. -/
structure IsPick (q : Fin 16 → EReal) (a : Fin 16) : Prop where
  largest : ∀ b, q b ≤ q a
  first : ∀ b, b < a → q b < q a

theorem IsPick.unique {q : Fin 16 → EReal} {a b : Fin 16} (ha : IsPick q a) (hb : IsPick q b) : a = b := by
  rcases lt_trichotomy a b with h | h | h
  · exact absurd (ha.largest b) (not_le.mpr (hb.first a h))
  · exact h
  · exact absurd (hb.largest a) (not_le.mpr (ha.first b h))

/-- The numbers along the lanes. -/
abbrev along (p : FVec Ideal S1x16 .f32) (a : Fin 16) : EReal := p (lane a)

theorem top_spec (p : FVec Ideal S1x16 .f32) (o : S1x1.Idx) :
    (∃ a, Hand.top p o = along p a) ∧ ∀ b, along p b ≤ Hand.top p o := by
  rw [top_eq]
  obtain ⟨⟨i, _, h⟩, h'⟩ := fold_max (Finset.univ : Finset S1x16.Idx) p ⟨lane 0, Finset.mem_univ _⟩
  refine ⟨⟨i 1, ?_⟩, fun b => h' _ (Finset.mem_univ _)⟩
  rw [h]; exact congrArg p (eq_lane i)

theorem marks_eq (p : FVec Ideal S1x16 .f32) (a : Fin 16) :
    Hand.marks p (lane a) = if along p a = Hand.top p (ix2 0 0) then BitVec.ofNat 32 a.val else 16#32 := by
  have hb : broadcastTo S1x16 (Hand.top p) broadcasts_S1x1_S1x16 (lane a) = Hand.top p (ix2 0 0) := by
    rw [top_eq]; exact top_eq p _
  have hl : Hand.lanes (lane a) = BitVec.ofNat 32 a.val := by
    simp [Hand.lanes, iota]
  unfold Hand.marks
  show (if Ideal.cmp .oeq (p (lane a)) (broadcastTo S1x16 (Hand.top p) broadcasts_S1x1_S1x16 (lane a)) = 1#1 then Hand.lanes (lane a) else 16#32) = _
  rw [hb, hl]
  by_cases h : along p a = Hand.top p (ix2 0 0)
  · rw [if_pos h, if_pos]; show BitVec.ofBool (decide _) = _; rw [decide_eq_true h]; rfl
  · rw [if_neg h, if_neg]; show ¬ BitVec.ofBool (decide _) = _; rw [decide_eq_false h]; decide

theorem toInt_small : ∀ a : Fin 17, (BitVec.ofNat 32 a.val).toInt = a.val := by decide

theorem place_spec (p : FVec Ideal S1x16 .f32) : ∃ a : Fin 16, Hand.place p = BitVec.ofNat 32 a.val ∧ IsPick (along p) a ∧
    ∀ o, Hand.top p o = along p a := by
  have htop : ∀ o, Hand.top p o = Hand.top p (ix2 0 0) := fun o => by rw [top_eq, top_eq]
  obtain ⟨⟨a₀, h₀⟩, hmax⟩ := top_spec p (ix2 0 0)
  have e : Hand.place p = (Finset.univ : Finset S1x1x16.Idx).fold IntOp.minsi 2147483647#32
      (shapeCast S1x1x16 (Hand.marks p) shapeCasts_S1x16_S1x1x16) := by
    refine (multiReductionI_eq_fold .minsi _ 2147483647#32 reduces_S1x1x16_S1 rfl _).trans ?_
    rw [Finset.filter_true_of_mem]
    · rfl
    · intro i _
      funext d
      match d with
      | ⟨0, _⟩ => exact Subsingleton.elim (α := Fin 1) _ _
  have hall : ∀ b : Fin 16, ∃ i : S1x1x16.Idx, shapeCast S1x1x16 (Hand.marks p) shapeCasts_S1x16_S1x1x16 i = Hand.marks p (lane b) :=
    fun b => ⟨(Shape.reshapeEquiv shapeCasts_S1x16_S1x1x16).symm (lane b), congrArg (Hand.marks p) (Equiv.apply_symm_apply _ _)⟩
  have hback : ∀ i : S1x1x16.Idx, ∃ b : Fin 16, shapeCast S1x1x16 (Hand.marks p) shapeCasts_S1x16_S1x1x16 i = Hand.marks p (lane b) :=
    fun i => ⟨(Shape.reshapeEquiv shapeCasts_S1x16_S1x1x16 i) 1, congrArg (Hand.marks p) (eq_lane _)⟩
  obtain ⟨h1, _, h3⟩ := fold_minsi (Finset.univ : Finset S1x1x16.Idx) (shapeCast S1x1x16 (Hand.marks p) shapeCasts_S1x16_S1x1x16) 2147483647#32
  rw [← e] at h1 h3
  have hle : ∀ b : Fin 16, (Hand.place p).toInt ≤ (Hand.marks p (lane b)).toInt := fun b => by
    obtain ⟨i, hi⟩ := hall b
    rw [← hi]; exact h3 i (Finset.mem_univ _)
  have hle' : ∀ b : Fin 16, along p b = Hand.top p (ix2 0 0) → (Hand.place p).toInt ≤ b.val := fun b hb => by
    have := hle b
    rwa [marks_eq, if_pos hb, toInt_small ⟨b.val, by omega⟩] at this
  have h16 := hle' a₀ h₀.symm
  have hin : ∃ b : Fin 16, Hand.place p = Hand.marks p (lane b) := by
    rcases h1 with h | ⟨i, _, h⟩
    · rw [h] at h16
      have : (2147483647#32 : BitVec 32).toInt = 2147483647 := by decide
      omega
    · obtain ⟨b, hb⟩ := hback i
      exact ⟨b, h.trans hb⟩
  obtain ⟨a, ha⟩ := hin
  by_cases hq : along p a = Hand.top p (ix2 0 0)
  · rw [marks_eq, if_pos hq] at ha
    refine ⟨a, ha, ⟨fun b => hq ▸ hmax b, fun b hb => ?_⟩, fun o => (htop o).trans hq.symm⟩
    refine lt_of_le_of_ne (hq ▸ hmax b) fun hne => ?_
    have := hle' b (hne.trans hq)
    rw [ha, toInt_small ⟨a.val, by omega⟩] at this
    have : a.val ≤ b.val := by exact_mod_cast this
    exact absurd hb (not_lt.mpr this)
  · rw [marks_eq, if_neg hq] at ha
    rw [ha] at h16
    have : (16#32 : BitVec 32).toInt = 16 := by decide
    omega

/-- The lane chosen. -/
def pickOf (p : FVec Ideal S1x16 .f32) : Fin 16 := (place_spec p).choose

theorem place_eq (p : FVec Ideal S1x16 .f32) : Hand.place p = BitVec.ofNat 32 (pickOf p).val := (place_spec p).choose_spec.1
theorem pick_isPick (p : FVec Ideal S1x16 .f32) : IsPick (along p) (pickOf p) := (place_spec p).choose_spec.2.1
theorem top_pick (p : FVec Ideal S1x16 .f32) (o : S1x1.Idx) : Hand.top p o = along p (pickOf p) := (place_spec p).choose_spec.2.2 o

theorem place_lt (p : FVec Ideal S1x16 .f32) : (Hand.place p).toNat < 16 := by
  rw [place_eq, BitVec.toNat_ofNat]
  have := (pickOf p).isLt
  omega

/-! ## Every expert read is in its table -/

theorem inb3 {n b c : ℕ} (v : BitVec 32) (hv : v.toNat < n) : ∀ a : Fin 3,
    (![v.toNat, 0, 0] : Fin 3 → ℕ) a + (![1, b, c] : Fin 3 → ℕ) a ≤ (![n, b, c] : Fin 3 → ℕ) a := by
  intro a
  fin_cases a
  · show v.toNat + 1 ≤ n; omega
  · show 0 + b ≤ b; omega
  · show 0 + c ≤ c; omega

theorem chosen (x : Vec Ideal S1x1024 .f32) (w1 : Vec Ideal S1024x512 .f32) (b1 : Vec Ideal S1x512 .f32) (w2 : Vec Ideal S512x16 .f32)
    (b2 : Vec Ideal S1x16 .f32) : Hand.Chosen x w1 b1 w2 b2 := by
  have h : ∀ k, (Hand.placeAt (Hand.prob x w1 b1 w2 b2) k).toNat < 16 := fun k => place_lt _
  have h1 := h 0
  have h2 := h 1
  have h3 := h 2
  have h4 := h 3
  have h5 := h 4
  have h6 := h 5
  have h7 := h 6
  have h8 := h 7
  rw [← Hand.ix1_eq] at h1
  rw [← Hand.ix2_eq] at h2
  rw [← Hand.ix3_eq] at h3
  rw [← Hand.ix4_eq] at h4
  rw [← Hand.ix5_eq] at h5
  rw [← Hand.ix6_eq] at h6
  rw [← Hand.ix7_eq] at h7
  rw [← Hand.ix8_eq] at h8
  exact ⟨⟨inb3 _ h1, inb3 _ h1, inb3 _ h1, inb3 _ h1, inb3 _ h1, inb3 _ h1, inb3 _ h1, inb3 _ h1⟩,
    ⟨inb3 _ h2, inb3 _ h2, inb3 _ h2, inb3 _ h2, inb3 _ h2, inb3 _ h2, inb3 _ h2, inb3 _ h2⟩,
    ⟨inb3 _ h3, inb3 _ h3, inb3 _ h3, inb3 _ h3, inb3 _ h3, inb3 _ h3, inb3 _ h3, inb3 _ h3⟩,
    ⟨inb3 _ h4, inb3 _ h4, inb3 _ h4, inb3 _ h4, inb3 _ h4, inb3 _ h4, inb3 _ h4, inb3 _ h4⟩,
    ⟨inb3 _ h5, inb3 _ h5, inb3 _ h5, inb3 _ h5, inb3 _ h5, inb3 _ h5, inb3 _ h5, inb3 _ h5⟩,
    ⟨inb3 _ h6, inb3 _ h6, inb3 _ h6, inb3 _ h6, inb3 _ h6, inb3 _ h6, inb3 _ h6, inb3 _ h6⟩,
    ⟨inb3 _ h7, inb3 _ h7, inb3 _ h7, inb3 _ h7, inb3 _ h7, inb3 _ h7, inb3 _ h7, inb3 _ h7⟩,
    ⟨inb3 _ h8, inb3 _ h8, inb3 _ h8, inb3 _ h8⟩⟩

theorem allChosen (m : (ℓ : Loc nD τ sig) → Buf (Elt Ideal) ℓ) : Hand.AllChosen (F := Ideal) m :=
  fun c t => chosen _ _ _ _ _

end Cert.KernelIdeal.Choice
-- ==== Proof.Final.lean ====
/- What the run leaves: the eleven arguments as launched, the two results at the values that the body computes from the
   arguments' reshapes. -/
module

public import proofs.«01_k».proof.Proof.Run
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-- A buffer that is neither a result nor a window's array ends as the region found it. -/
theorem tail_other (c : Dev nD) (b : Ref sig .tc) (h0 : b ≠ main_v0_0) (h1 : b ≠ main_v0_1) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h0, StableHlo.devRef_ne_of_ne h1⟩)),
    Pipeline.withArrays_of_ne _ c (V0 m c) _ b hw]

/-- The one point of the grid of no axis. -/
abbrev t0 : Fin cfg0.N := ⟨0, by decide⟩

/-- The two output arrays after the run. -/
theorem final5 (c : Dev nD) : (dats m 0 c).arrAt 5 cfg0.N = probAt m c t0 := by
  refine (dats m 0 c).arrAt_eq_of_after_last 5 t0 (by decide +kernel) _ (fun j => ?_)
  rw [after_5]; rfl
theorem final6 (c : Dev nD) : (dats m 0 c).arrAt 6 cfg0.N = answerAt m c t0 := by
  refine (dats m 0 c).arrAt_eq_of_after_last 6 t0 (by decide +kernel) _ (fun j => ?_)
  rw [after_6]; rfl

/-- The answer, reshaped. -/
theorem tail_v0_0 (c : Dev nD) : Pipeline.afterTail₀ cfgs (dats m) 0 (V0 m) [hostOps1] c main_v0_0
    = shapeCast S1024 (answerAt m c t0) shapeCasts_S1x1024_S1024 := by
  rw [← final6]
  unfold Pipeline.afterTail₀
  simp only [hostOps1, List.flatten_cons, List.flatten_nil, List.append_nil]
  after_results
  exact congrArg (fun v => shapeCast S1024 v shapeCasts_S1x1024_S1024)
    (Pipeline.withArrays_arr spec0 launch0.win.arr_inj c (V0 m c) (fun w => (dats m 0 c).arrAt w cfg0.N) 6)

/-- The probabilities, reshaped. -/
theorem tail_v0_1 (c : Dev nD) : Pipeline.afterTail₀ cfgs (dats m) 0 (V0 m) [hostOps1] c main_v0_1
    = shapeCast S16 (probAt m c t0) shapeCasts_S1x16_S16 := by
  rw [← final5]
  unfold Pipeline.afterTail₀
  simp only [hostOps1, List.flatten_cons, List.flatten_nil, List.append_nil]
  after_results
  exact congrArg (fun v => shapeCast S16 v shapeCasts_S1x16_S16)
    (Pipeline.withArrays_arr spec0 launch0.win.arr_inj c (V0 m c) (fun w => (dats m 0 c).arrAt w cfg0.N) 5)

/-- The run, its results named: from any memory whose choices are in bounds. -/
theorem run_named (hC : AllChosen m) : θ_run (defs (F := F)) (onTc (τ := τ) (main (F := F))) ⟨m, fun _ => 0, ρ⟩ (fun r => (∀ c : Dev nD,
      r.2.mem ((c : Thread nD τ).loc main_v0_0) = shapeCast S1024 (answerAt m c t0) shapeCasts_S1x1024_S1024
      ∧ r.2.mem ((c : Thread nD τ).loc main_v0_1) = shapeCast S16 (probAt m c t0) shapeCasts_S1x16_S16
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10))
      ∧ r.2.sem = fun _ => 0) := by
  refine (θ_run _ _ _).mono (fun r h => ⟨fun c => ?_, h.2⟩) (run_main m ρ hC)
  have rest := fun (b : Ref sig .tc) hb => (h.1 c).2 b hb
  have kept : ∀ (b : Ref sig .tc) (h0 : b ≠ main_v0_0) (h1 : b ≠ main_v0_1) (hw : ∀ w, Pipeline.arrRef spec0 w ≠ b) (hs : b.isScoped = false),
      r.2.mem ((c : Thread nD τ).loc b) = V m c b := fun b h0 h1 hw hs =>
    (rest b (Pipeline.mem_restRefs_of b hs hw)).trans (tail_other m c b h0 h1 hw)
  exact ⟨(rest main_v0_0 (Pipeline.mem_restRefs_of _ (by decide) (by decide))).trans (tail_v0_0 m c),
    (rest main_v0_1 (Pipeline.mem_restRefs_of _ (by decide) (by decide))).trans (tail_v0_1 m c),
    (kept main_arg0 (by decide) (by decide) (by decide) (by decide)).trans (V_main_arg0 m c),
    ((h.1 c).1 1).trans (((dats m 0 c).arrAt_in 1 rfl _).trans ((A_eq m c 1).trans (V_main_arg1 m c))),
    (kept main_arg2 (by decide) (by decide) (by decide) (by decide)).trans (V_main_arg2 m c),
    ((h.1 c).1 3).trans (((dats m 0 c).arrAt_in 3 rfl _).trans ((A_eq m c 3).trans (V_main_arg3 m c))),
    (kept main_arg4 (by decide) (by decide) (by decide) (by decide)).trans (V_main_arg4 m c),
    (kept main_arg5 (by decide) (by decide) (by decide) (by decide)).trans (V_main_arg5 m c),
    (kept main_arg6 (by decide) (by decide) (by decide) (by decide)).trans (V_main_arg6 m c),
    (kept main_arg7 (by decide) (by decide) (by decide) (by decide)).trans (V_main_arg7 m c),
    (kept main_arg8 (by decide) (by decide) (by decide) (by decide)).trans (V_main_arg8 m c),
    (kept main_arg9 (by decide) (by decide) (by decide) (by decide)).trans (V_main_arg9 m c),
    (kept main_arg10 (by decide) (by decide) (by decide) (by decide)).trans (V_main_arg10 m c)⟩

end Cert.KernelIdeal.Hand

end
-- ==== Proof.Frames.lean ====
/- Both programs run to their end, leave their arguments as they were and every semaphore at zero. -/
module

public import proofs.«01_k».proof.Defs
public import proofs.«01_k».proof.Proof.Choice
public import proofs.«01_k».proof.Proof.Final
public import proofs.«01_k».proof.Proof.Gen.ReferenceIdeal
public import proofs.«01_k».proof.Proof.Gen.ReferenceIdeal.Run
public import Idealize.ShloMosaic.Adequacy

@[expose] public section

noncomputable section

namespace Cert.Frames

open Idealize.ShloMosaic Idealize.SL.Sem

theorem kernel : @Cert.quiescent_KernelIdeal Cert.KernelIdeal.Gen.facts := fun m g _ =>
  (θ_run Cert.KernelIdeal.defs _ _).mono (fun r h => ⟨fun c => (h.1 c).2.2, h.2⟩)
    (Cert.KernelIdeal.Hand.run_named m g (Cert.KernelIdeal.Choice.allChosen m))

theorem reference : @Cert.quiescent_ReferenceIdeal Cert.ReferenceIdeal.Gen.facts := fun m g _ =>
  (θ_run Cert.ReferenceIdeal.defs _ _).mono (fun r h => ⟨fun c => (h c).2.2, sem_eq_zero_of_no_sems (by decide) r.2⟩)
    (Cert.ReferenceIdeal.Value.run (F := Ideal) m g)

end Cert.Frames

end
-- ==== Proof.Read.lean ====
/- What the kernel's call reads: its blocks are whole arrays, and the arrays are the arguments, some of them reshaped. -/
module

public import proofs.«01_k».proof.Proof.Final
public import Idealize.ShloMosaic.Lib.Pointwise

@[expose] public section

set_option maxRecDepth 16384

noncomputable section

namespace Cert.Read

open Cert.KernelIdeal Cert.KernelIdeal.Gen Cert.KernelIdeal.Hand
open Idealize.ShloMosaic Idealize.ShloMosaic.TcCoe Idealize.ShloMosaic.Tactic

variable (m : (ℓ : Loc nD τ sig) → Buf (Elt Ideal) ℓ)

/-! ## Every block is its whole array -/

theorem starts : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) := (by decide +kernel : ∀ t : Fin grid0.N, _)

theorem emb0 (y : S1x1024.Idx) : ((cfg0.win 0).blk t0).view.emb y = y := by
  have h := (starts t0).1
  funext a; apply Fin.ext
  match a with
  | ⟨0, _⟩ => show win0_0.index t0 (0 : Fin 2) * 1 + 1 * (y 0).val = (y 0).val; rw [h]; omega
  | ⟨1, _⟩ => show win0_0.index t0 (1 : Fin 2) * 1024 + 1 * (y 1).val = (y 1).val; rw [h]; omega

theorem emb1 (y : S1024x512.Idx) : ((cfg0.win 1).blk t0).view.emb y = y := by
  have h := (starts t0).2.1
  funext a; apply Fin.ext
  match a with
  | ⟨0, _⟩ => show win0_1.index t0 (0 : Fin 2) * 1024 + 1 * (y 0).val = (y 0).val; rw [h]; omega
  | ⟨1, _⟩ => show win0_1.index t0 (1 : Fin 2) * 512 + 1 * (y 1).val = (y 1).val; rw [h]; omega

theorem emb2 (y : S1x512.Idx) : ((cfg0.win 2).blk t0).view.emb y = y := by
  have h := (starts t0).2.2.1
  funext a; apply Fin.ext
  match a with
  | ⟨0, _⟩ => show win0_2.index t0 (0 : Fin 2) * 1 + 1 * (y 0).val = (y 0).val; rw [h]; omega
  | ⟨1, _⟩ => show win0_2.index t0 (1 : Fin 2) * 512 + 1 * (y 1).val = (y 1).val; rw [h]; omega

theorem emb3 (y : S512x16.Idx) : ((cfg0.win 3).blk t0).view.emb y = y := by
  have h := (starts t0).2.2.2.1
  funext a; apply Fin.ext
  match a with
  | ⟨0, _⟩ => show win0_3.index t0 (0 : Fin 2) * 512 + 1 * (y 0).val = (y 0).val; rw [h]; omega
  | ⟨1, _⟩ => show win0_3.index t0 (1 : Fin 2) * 16 + 1 * (y 1).val = (y 1).val; rw [h]; omega

theorem emb4 (y : S1x16.Idx) : ((cfg0.win 4).blk t0).view.emb y = y := by
  have h := (starts t0).2.2.2.2
  funext a; apply Fin.ext
  match a with
  | ⟨0, _⟩ => show win0_4.index t0 (0 : Fin 2) * 1 + 1 * (y 0).val = (y 0).val; rw [h]; omega
  | ⟨1, _⟩ => show win0_4.index t0 (1 : Fin 2) * 16 + 1 * (y 1).val = (y 1).val; rw [h]; omega

/-! ## The reshapes before the call -/

theorem host0 (c : Dev nD) : V m c main_call0_v0 = shapeCast S1x1024 (m ((c : Thread nD τ).loc main_arg0)) shapeCasts_S1024_S1x1024 := by
  unfold V V0
  simp only [hostOps0, List.flatten_cons, List.flatten_nil, List.append_nil]
  after_results
  rfl
theorem host1 (c : Dev nD) : V m c main_call0_v1 = shapeCast S1x512 (m ((c : Thread nD τ).loc main_arg2)) shapeCasts_S512_S1x512 := by
  unfold V V0
  simp only [hostOps0, List.flatten_cons, List.flatten_nil, List.append_nil]
  after_results
  rfl
theorem host2 (c : Dev nD) : V m c main_call0_v2 = shapeCast S1x16 (m ((c : Thread nD τ).loc main_arg4)) shapeCasts_S16_S1x16 := by
  unfold V V0
  simp only [hostOps0, List.flatten_cons, List.flatten_nil, List.append_nil]
  after_results
  rfl
theorem host3 (c : Dev nD) : V m c main_call0_v3 = shapeCast S16x1x2048 (m ((c : Thread nD τ).loc main_arg6)) shapeCasts_S16x2048_S16x1x2048 := by
  unfold V V0
  simp only [hostOps0, List.flatten_cons, List.flatten_nil, List.append_nil]
  after_results
  rfl
theorem host4 (c : Dev nD) : V m c main_call0_v4 = shapeCast S16x1x1024 (m ((c : Thread nD τ).loc main_arg8)) shapeCasts_S16x1024_S16x1x1024 := by
  unfold V V0
  simp only [hostOps0, List.flatten_cons, List.flatten_nil, List.append_nil]
  after_results
  rfl
theorem host5 (c : Dev nD) : V m c main_call0_v5 = shapeCast S16x1x1024 (m ((c : Thread nD τ).loc main_arg9)) shapeCasts_S16x1024_S16x1x1024 := by
  unfold V V0
  simp only [hostOps0, List.flatten_cons, List.flatten_nil, List.append_nil]
  after_results
  rfl
theorem host6 (c : Dev nD) : V m c main_call0_v6 = shapeCast S16x1x1024 (m ((c : Thread nD τ).loc main_arg10)) shapeCasts_S16x1024_S16x1x1024 := by
  unfold V V0
  simp only [hostOps0, List.flatten_cons, List.flatten_nil, List.append_nil]
  after_results
  rfl

/-! ## The blocks at an index -/

theorem blk0 (c : Dev nD) (j : Fin 1024) : iblk m c 0 t0 (ix2 (0 : Fin 1) j) = m ((c : Thread nD τ).loc main_arg0) (ix1 j) := by
  show V m c main_call0_v0 (((cfg0.win 0).blk t0).view.emb (ix2 (0 : Fin 1) j)) = _
  rw [emb0, host0]; pointwise []
theorem blk1 (c : Dev nD) : iblk m c 1 t0 = m ((c : Thread nD τ).loc main_arg1) := by
  funext y
  show V m c main_arg1 (((cfg0.win 1).blk t0).view.emb y) = _
  rw [emb1, V_main_arg1]
theorem blk2 (c : Dev nD) (j : Fin 512) : iblk m c 2 t0 (ix2 (0 : Fin 1) j) = m ((c : Thread nD τ).loc main_arg2) (ix1 j) := by
  show V m c main_call0_v1 (((cfg0.win 2).blk t0).view.emb (ix2 (0 : Fin 1) j)) = _
  rw [emb2, host1]; pointwise []
theorem blk3 (c : Dev nD) : iblk m c 3 t0 = m ((c : Thread nD τ).loc main_arg3) := by
  funext y
  show V m c main_arg3 (((cfg0.win 3).blk t0).view.emb y) = _
  rw [emb3, V_main_arg3]
theorem blk4 (c : Dev nD) (j : Fin 16) : iblk m c 4 t0 (ix2 (0 : Fin 1) j) = m ((c : Thread nD τ).loc main_arg4) (ix1 j) := by
  show V m c main_call0_v2 (((cfg0.win 4).blk t0).view.emb (ix2 (0 : Fin 1) j)) = _
  rw [emb4, host2]; pointwise []

/-! ## The tables' rows at an index -/

theorem pick_fin (e : Fin 16) : pick (BitVec.ofNat 32 e.val).toNat = e := by revert e; decide

variable (c : Dev nD) (e : Fin 16)

theorem table_W1 (d : Fin 1024) (f : Fin 2048) : (tables m c (BitVec.ofNat 32 e.val)).W1 (ix3 (0 : Fin 1) d f) = m ((c : Thread nD τ).loc main_arg5) (ix3 e d f) := by
  show V m c main_arg5 (ix3 (pick (BitVec.ofNat 32 e.val).toNat) d f) = _
  rw [pick_fin, V_main_arg5]
theorem table_b1 (f : Fin 2048) : (tables m c (BitVec.ofNat 32 e.val)).b1 (ix3 (0 : Fin 1) (0 : Fin 1) f) = m ((c : Thread nD τ).loc main_arg6) (ix2 e f) := by
  show V m c main_call0_v3 (ix3 (pick (BitVec.ofNat 32 e.val).toNat) (0 : Fin 1) f) = _
  rw [pick_fin, host3]; pointwise []
theorem table_W2 (f : Fin 2048) (j : Fin 1024) : (tables m c (BitVec.ofNat 32 e.val)).W2 (ix3 (0 : Fin 1) f j) = m ((c : Thread nD τ).loc main_arg7) (ix3 e f j) := by
  show V m c main_arg7 (ix3 (pick (BitVec.ofNat 32 e.val).toNat) f j) = _
  rw [pick_fin, V_main_arg7]
theorem table_b2 (j : Fin 1024) : (tables m c (BitVec.ofNat 32 e.val)).b2 (ix3 (0 : Fin 1) (0 : Fin 1) j) = m ((c : Thread nD τ).loc main_arg8) (ix2 e j) := by
  show V m c main_call0_v4 (ix3 (pick (BitVec.ofNat 32 e.val).toNat) (0 : Fin 1) j) = _
  rw [pick_fin, host4]; pointwise []
theorem table_lw (j : Fin 1024) : (tables m c (BitVec.ofNat 32 e.val)).lw (ix3 (0 : Fin 1) (0 : Fin 1) j) = m ((c : Thread nD τ).loc main_arg9) (ix2 e j) := by
  show V m c main_call0_v5 (ix3 (pick (BitVec.ofNat 32 e.val).toNat) (0 : Fin 1) j) = _
  rw [pick_fin, host5]; pointwise []
theorem table_lb (j : Fin 1024) : (tables m c (BitVec.ofNat 32 e.val)).lb (ix3 (0 : Fin 1) (0 : Fin 1) j) = m ((c : Thread nD τ).loc main_arg10) (ix2 e j) := by
  show V m c main_call0_v6 (ix3 (pick (BitVec.ofNat 32 e.val).toNat) (0 : Fin 1) j) = _
  rw [pick_fin, host6]; pointwise []

end Cert.Read

end
-- ==== Proof.Gate.lean ====
/- The gate over the extended reals: the kernel's probabilities are the reference's. -/
module

public import proofs.«01_k».proof.Proof.Choice
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Gate

open Idealize.ShloMosaic Idealize.ShloMosaic.TcCoe
open Cert.KernelIdeal (S1x1024 S1024x512 S1x512 S512x16 S1x16 S1x8)
open Cert.KernelIdeal.Choice (negInf_eq)

abbrev RV := Valuation Cert.ReferenceIdeal.τ Cert.ReferenceIdeal.sig (Elt Ideal)

/-- The logits, from the five arrays. -/
def logit (x : Fin 1024 → EReal) (W1 : Fin 1024 → Fin 512 → EReal) (b1 : Fin 512 → EReal) (W2 : Fin 512 → Fin 16 → EReal)
    (b2 : Fin 16 → EReal) (a : Fin 16) : EReal :=
  (∑ f, max ((∑ d, x d * W1 d f) + b1 f) 0 * W2 f a) + b2 a

/-- The softmax of finitely many numbers. -/
def softmax {n : ℕ} (s : Fin n → EReal) (a : Fin n) : EReal :=
  Ideal.div (Ideal.exp (s a - Finset.univ.fold max ⊥ s)) (∑ b, Ideal.exp (s b - Finset.univ.fold max ⊥ s))

theorem negInf : Ideal.ofBits .f32 0xFF800000#32 = ⊥ := negInf_eq

/-- A largest over a set that lists the entries of `g` is the largest of `g`. -/
theorem fold_all {ι κ : Type} [Fintype κ] (s : Finset ι) (f : ι → EReal) (g : κ → EReal) (e : κ → ι)
    (h : ∀ i ∈ s, ∃ k, f i = g k) (h' : ∀ k, e k ∈ s ∧ f (e k) = g k) : s.fold max ⊥ f = Finset.univ.fold max ⊥ g := by
  refine le_antisymm ((Finset.fold_max_le _).mpr ⟨bot_le, fun i hi => ?_⟩) ((Finset.fold_max_le _).mpr ⟨bot_le, fun k _ => ?_⟩)
  · obtain ⟨k, hk⟩ := h i hi
    exact (Finset.le_fold_max _).mpr (.inr ⟨k, Finset.mem_univ _, hk.le⟩)
  · exact (Finset.le_fold_max _).mpr (.inr ⟨e k, (h' k).1, (h' k).2.ge⟩)

theorem fold16 (t : FVec Ideal Cert.ReferenceIdeal.S16 .f32) (s : Finset Cert.ReferenceIdeal.S16.Idx) (hs : ∀ i, i ∈ s) :
    s.fold max ⊥ t = Finset.univ.fold max ⊥ fun a : Fin 16 => t (ix1 a) :=
  fold_all s t _ (fun a => ix1 a) (fun i _ => ⟨i 0, congrArg t (eq_ix1 i)⟩) fun k => ⟨hs _, rfl⟩

theorem fold8 (t : FVec Ideal Cert.ReferenceIdeal.S8 .f32) (s : Finset Cert.ReferenceIdeal.S8.Idx) (hs : ∀ i, i ∈ s) :
    s.fold max ⊥ t = Finset.univ.fold max ⊥ fun a : Fin 8 => t (ix1 a) :=
  fold_all s t _ (fun a => ix1 a) (fun i _ => ⟨i 0, congrArg t (eq_ix1 i)⟩) fun k => ⟨hs _, rfl⟩

theorem kernel_prob (x : Vec Ideal S1x1024 .f32) (w1 : Vec Ideal S1024x512 .f32) (b1 : Vec Ideal S1x512 .f32) (w2 : Vec Ideal S512x16 .f32)
    (b2 : Vec Ideal S1x16 .f32) (a : Fin 16) : Cert.KernelIdeal.Hand.prob x w1 b1 w2 b2 (ix2 (0 : Fin 1) a) =
      softmax (logit (fun d => x (ix2 0 d)) (fun d f => w1 (ix2 d f)) (fun f => b1 (ix2 0 f)) (fun f a => w2 (ix2 f a)) (fun a => b2 (ix2 0 a))) a := by
  pointwise [Cert.KernelIdeal.Hand.prob, Cert.KernelIdeal.Gen.k0_pay3, Cert.KernelIdeal.Gen.k0_pay2]
  simp only [negInf]
  rfl

theorem ref_logit (V : RV) (a : Fin 16) : Cert.ReferenceIdeal.Value.res_main_v4 (F := Ideal) V (ix1 a) =
    logit (fun d => V (Proc.devRef .tc Cert.ReferenceIdeal.main_arg0) (ix1 d)) (fun d f => V (Proc.devRef .tc Cert.ReferenceIdeal.main_arg1) (ix2 d f))
      (fun f => V (Proc.devRef .tc Cert.ReferenceIdeal.main_arg2) (ix1 f)) (fun f a => V (Proc.devRef .tc Cert.ReferenceIdeal.main_arg3) (ix2 f a))
      (fun a => V (Proc.devRef .tc Cert.ReferenceIdeal.main_arg4) (ix1 a)) a := by
  pointwise [Cert.ReferenceIdeal.Value.res_main_v4]
  rfl

theorem ref_prob (V : RV) (a : Fin 16) : Cert.ReferenceIdeal.Value.res_main_v14 (F := Ideal) V (ix1 a) =
    softmax (fun a : Fin 16 => Cert.ReferenceIdeal.Value.res_main_v4 (F := Ideal) V (ix1 a)) a := by
  pointwise [Cert.ReferenceIdeal.Value.res_main_v14, Cert.ReferenceIdeal.Value.res_main_v10]
  simp only [negInf]
  rw [fold16 _ _ (fun i => by simp; exact Subsingleton.elim _ _)]
  simp only [max_eq_right bot_le]
  rfl

theorem soft8_apply (v : FVec Ideal S1x8 .f32) (k : Fin 8) :
    Cert.KernelIdeal.Hand.soft8 v (ix2 (0 : Fin 1) k) = softmax (fun k : Fin 8 => v (ix2 (0 : Fin 1) k)) k := by
  pointwise [Cert.KernelIdeal.Hand.soft8]
  simp only [negInf]
  rfl

/-- The reference's eight largest probabilities. -/
abbrev refVals (V : RV) (k : Fin 8) : EReal := Cert.ReferenceIdeal.Value.res_main_values (F := Ideal) V (ix1 k)

theorem ref_gate_exp (V : RV) (k : Fin 8) : Cert.ReferenceIdeal.Value.res_main_v20 (F := Ideal) V (ix1 k) =
    Ideal.exp (refVals V k - Finset.univ.fold max ⊥ (refVals V)) := by
  pointwise [Cert.ReferenceIdeal.Value.res_main_v20]
  simp only [negInf]
  rw [fold8 _ _ (fun i => by simp; exact Subsingleton.elim _ _)]
  simp only [max_eq_right bot_le]

/-! ## Finite numbers stay finite -/

/-- A number that is neither of the infinities. -/
def IsReal (x : EReal) : Prop := ∃ r : ℝ, x = (r : EReal)

theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.mul {x y : EReal} (hx : IsReal x) (hy : IsReal y) : IsReal (x * y) := by
  obtain ⟨r, rfl⟩ := hx; obtain ⟨s, rfl⟩ := hy; exact ⟨r * s, (EReal.coe_mul r s).symm⟩
theorem IsReal.max {x y : EReal} (hx : IsReal x) (hy : IsReal y) : IsReal (Max.max x y) := by
  rcases max_choice x y with h | h <;> rw [h] <;> assumption
theorem IsReal.zero : IsReal 0 := ⟨0, rfl⟩
theorem IsReal.sum {ι : Type} (s : Finset ι) (f : ι → EReal) (h : ∀ i ∈ s, IsReal (f i)) : IsReal (∑ i ∈ s, f i) :=
  Finset.sum_induction f IsReal (fun _ _ => IsReal.add) IsReal.zero h

theorem logit_fin {x : Fin 1024 → EReal} {W1 : Fin 1024 → Fin 512 → EReal} {b1 : Fin 512 → EReal} {W2 : Fin 512 → Fin 16 → EReal}
    {b2 : Fin 16 → EReal} (hx : ∀ d, IsReal (x d)) (hW1 : ∀ d f, IsReal (W1 d f)) (hb1 : ∀ f, IsReal (b1 f)) (hW2 : ∀ f a, IsReal (W2 f a))
    (hb2 : ∀ a, IsReal (b2 a)) (a : Fin 16) : IsReal (logit x W1 b1 W2 b2 a) :=
  (IsReal.sum _ _ fun f _ => (IsReal.max ((IsReal.sum _ _ fun d _ => (hx d).mul (hW1 d f)).add (hb1 f)) IsReal.zero).mul (hW2 f a)).add (hb2 a)

/-- The softmax of finite numbers is above the least number. -/
theorem softmax_ne_bot (s : Fin 16 → EReal) (hs : ∀ a, IsReal (s a)) (a : Fin 16) : softmax s a ≠ ⊥ := by
  obtain ⟨⟨i, _, hi⟩, _⟩ := Cert.KernelIdeal.Choice.fold_max Finset.univ s ⟨0, Finset.mem_univ _⟩
  choose r hr using hs
  have e : ∀ b, Ideal.exp (s b - Finset.univ.fold max ⊥ s) = ((Real.exp (r b - r i) : ℝ) : EReal) := fun b => by
    rw [hi, hr, hr, ← EReal.coe_sub, Ideal.exp_coe]
  have hsum : (∑ b, Ideal.exp (s b - Finset.univ.fold max ⊥ s)) = ((∑ b, Real.exp (r b - r i) : ℝ) : EReal) := by
    simp only [e]; exact (map_sum (⟨⟨fun z : ℝ => (z : EReal), rfl⟩, EReal.coe_add⟩ : ℝ →+ EReal) _ _).symm
  have hpos : 0 < ∑ b : Fin 16, Real.exp (r b - r i) := Finset.sum_pos (fun b _ => Real.exp_pos _) ⟨0, Finset.mem_univ _⟩
  unfold softmax
  rw [hsum, e, Ideal.div, if_neg (by exact_mod_cast hpos.ne'), ← EReal.coe_inv, ← EReal.coe_mul]
  exact EReal.coe_ne_bot _

end Cert.Gate

end
-- ==== Proof.Order.lean ====
/- The eight experts chosen one after another are the first eight of the stable order by falling probability. -/
module

public import proofs.«01_k».proof.Proof.Gate
public import Idealize.ShloMosaic.Lib.SortFacts

@[expose] public section

set_option maxRecDepth 16384

noncomputable section

namespace Cert.Order

open Idealize.ShloMosaic Idealize.ShloMosaic.TcCoe
open Cert.KernelIdeal (S1x1024 S1024x512 S1x512 S512x16 S1x16 S1x8)
open Cert.KernelIdeal.Choice

/-! ## The stable order -/

/-- `a` is before `b`: it holds more, or as much at a lower place. -/
def Lex {n : ℕ} (q : Fin n → EReal) (a b : Fin n) : Prop := q b < q a ∨ (q a = q b ∧ a < b)

theorem lex_insert {n : ℕ} (q : Fin n → EReal) (a : Fin n) (l : List (Fin n)) (ha : ∀ b ∈ l, a < b) (hl : l.Pairwise (Lex q)) :
    (insertBefore (fun k k' => decide (q k' < q k)) a l).Pairwise (Lex q) := by
  induction l with
  | nil => exact List.pairwise_singleton _ _
  | cons b l ih =>
    rw [List.pairwise_cons] at hl
    unfold insertBefore
    split
    · rename_i h
      have h : q a < q b := of_decide_eq_true h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl h
      · exact hl.1 c hc'
    · rename_i h
      have h : q b ≤ q a := not_lt.mp fun h' => h (decide_eq_true h')
      refine List.pairwise_cons.mpr ⟨fun c hc => ?_, List.pairwise_cons.mpr hl⟩
      have hab : Lex q a b := by
        rcases lt_or_eq_of_le h with h | h
        · exact .inl h
        · exact .inr ⟨h.symm, ha b List.mem_cons_self⟩
      rcases List.mem_cons.mp hc with rfl | hc'
      · exact hab
      · rcases hl.1 c hc' with h1 | ⟨h1, h2⟩
        · exact .inl (lt_of_lt_of_le h1 h)
        · rcases hab with h3 | ⟨h3, h4⟩
          · exact .inl (h1 ▸ h3)
          · exact .inr ⟨h3.trans h1, h4.trans h2⟩

theorem lex_sort {n : ℕ} (q : Fin n → EReal) (l : List (Fin n)) (hl : l.Pairwise (· < ·)) :
    (stableSort (fun k k' => decide (q k' < q k)) l).Pairwise (Lex q) := by
  induction l with
  | nil => exact List.Pairwise.nil
  | cons a l ih =>
    rw [List.pairwise_cons] at hl
    unfold stableSort
    exact lex_insert q a _ (fun b hb => hl.1 b ((perm_stableSort _ l).mem_iff.mp hb)) (ih hl.2)

/-- The place that comes `k`-th in the stable order. -/
def nth (q : Fin 16 → EReal) (k : Fin 16) : Fin 16 := sortedFrom (fun k k' => decide (q k' < q k)) k

theorem sortedFrom_lex {n : ℕ} (q : Fin n → EReal) (i j : Fin n) (hij : i < j) :
    Lex q (sortedFrom (fun k k' => decide (q k' < q k)) i) (sortedFrom (fun k k' => decide (q k' < q k)) j) := by
  have hp : ∀ a b : Fin (sortPositions n (fun k k' => decide (q k' < q k))).length, a < b →
      Lex q ((sortPositions n (fun k k' => decide (q k' < q k))).get a) ((sortPositions n (fun k k' => decide (q k' < q k))).get b) :=
    List.pairwise_iff_get.mp (lex_sort q (List.finRange n) (List.pairwise_lt_finRange n))
  exact hp (i.cast (length_sortPositions n _).symm) (j.cast (length_sortPositions n _).symm) hij

theorem nth_lex (q : Fin 16 → EReal) (i j : Fin 16) (hij : i < j) : Lex q (nth q i) (nth q j) := sortedFrom_lex q i j hij

theorem nth_injective (q : Fin 16 → EReal) : Function.Injective (nth q) := sortedFrom_injective _
theorem nth_surjective (q : Fin 16 → EReal) : Function.Surjective (nth q) := sortedFrom_surjective _

/-! ## The rounds follow it -/

theorem beq_lane : ∀ a b : Fin 16, (BitVec.ofNat 32 a.val == BitVec.ofNat 32 b.val) = decide (a = b) := by decide

theorem strike_apply (p : FVec Ideal S1x16 .f32) (a : Fin 16) :
    along (Cert.KernelIdeal.Hand.strike p) a = if a = pickOf p then ⊥ else along p a := by
  have hl : Cert.KernelIdeal.Hand.lanes (lane a) = BitVec.ofNat 32 a.val := by simp [Cert.KernelIdeal.Hand.lanes, iota]
  unfold Cert.KernelIdeal.Hand.strike
  rw [place_eq]
  generalize pickOf p = b
  show (if BitVec.ofBool (Cert.KernelIdeal.Hand.lanes (lane a) == BitVec.ofNat 32 b.val) = 1#1 then (FloatOps.ofBits (F := Ideal) .f32 0xFF800000#32) else p (lane a)) = _
  rw [hl, beq_lane]
  by_cases h : a = b
  · rw [if_pos h, decide_eq_true h]; exact negInf_eq
  · rw [if_neg h, decide_eq_false h]; rfl

/-- The numbers left after `k` rounds. -/
def leftOf (q : Fin 16 → EReal) (k : ℕ) (a : Fin 16) : EReal := if ∃ i : Fin 16, i.val < k ∧ nth q i = a then ⊥ else q a

theorem nth_isPick (q : Fin 16 → EReal) (hq : ∀ a, q a ≠ ⊥) (k : Fin 16) : IsPick (leftOf q k.val) (nth q k) := by
  have hk : leftOf q k.val (nth q k) = q (nth q k) := by
    unfold leftOf
    rw [if_neg]
    rintro ⟨i, hi, h⟩
    have := nth_injective q h
    omega
  refine ⟨fun b => ?_, fun b hb => ?_⟩ <;> rw [hk]
  · unfold leftOf
    split
    · exact bot_le
    · rename_i h
      obtain ⟨j, rfl⟩ := nth_surjective q b
      rcases lt_trichotomy j k with h' | rfl | h'
      · exact absurd ⟨j, h', rfl⟩ h
      · exact le_refl _
      · rcases nth_lex q k j h' with h1 | ⟨h1, _⟩
        · exact h1.le
        · exact h1.ge
  · unfold leftOf
    split
    · exact bot_lt_iff_ne_bot.mpr (hq _)
    · rename_i h
      obtain ⟨j, rfl⟩ := nth_surjective q b
      rcases lt_trichotomy j k with h' | rfl | h'
      · exact absurd ⟨j, h', rfl⟩ h
      · exact absurd hb (lt_irrefl _)
      · rcases nth_lex q k j h' with h1 | ⟨_, h1⟩
        · exact h1
        · exact absurd hb (not_lt.mpr h1.le)

theorem left_eq (p : FVec Ideal S1x16 .f32) (q : Fin 16 → EReal) (hp : ∀ a, along p a = q a) (hq : ∀ a, q a ≠ ⊥) (k : ℕ) (hk : k ≤ 16)
    (a : Fin 16) : along (Cert.KernelIdeal.Hand.left p k) a = leftOf q k a := by
  induction k generalizing a with
  | zero =>
    unfold leftOf
    rw [if_neg (by rintro ⟨i, hi, _⟩; exact absurd hi (Nat.not_lt_zero _))]
    exact hp a
  | succ k ih =>
    have ih := ih (Nat.le_of_succ_le hk)
    have hpick : pickOf (Cert.KernelIdeal.Hand.left p k) = nth q ⟨k, hk⟩ := by
      have h := pick_isPick (Cert.KernelIdeal.Hand.left p k)
      rw [funext ih] at h
      exact h.unique (nth_isPick q hq ⟨k, hk⟩)
    show along (Cert.KernelIdeal.Hand.strike (Cert.KernelIdeal.Hand.left p k)) a = _
    rw [strike_apply, hpick, ih]
    unfold leftOf
    by_cases h : a = nth q ⟨k, hk⟩
    · rw [if_pos h, if_pos ⟨⟨k, hk⟩, Nat.lt_succ_self k, h.symm⟩]
    · rw [if_neg h]
      congr 1
      refine propext ⟨fun ⟨i, hi, e⟩ => ⟨i, by omega, e⟩, fun ⟨i, hi, e⟩ => ⟨i, ?_, e⟩⟩
      rcases Nat.lt_succ_iff_lt_or_eq.mp hi with h' | h'
      · exact h'
      · exact absurd (e.symm.trans (congrArg (nth q) (Fin.ext h'))) h

theorem pick_left (p : FVec Ideal S1x16 .f32) (q : Fin 16 → EReal) (hp : ∀ a, along p a = q a) (hq : ∀ a, q a ≠ ⊥) (k : Fin 16) :
    pickOf (Cert.KernelIdeal.Hand.left p k.val) = nth q k := by
  have h := pick_isPick (Cert.KernelIdeal.Hand.left p k.val)
  rw [funext (left_eq p q hp hq k.val k.isLt.le)] at h
  exact h.unique (nth_isPick q hq k)

theorem placeAt_eq (p : FVec Ideal S1x16 .f32) (q : Fin 16 → EReal) (hp : ∀ a, along p a = q a) (hq : ∀ a, q a ≠ ⊥) (k : Fin 16) :
    Cert.KernelIdeal.Hand.placeAt p k.val = BitVec.ofNat 32 (nth q k).val := by
  unfold Cert.KernelIdeal.Hand.placeAt
  rw [place_eq, pick_left p q hp hq]

theorem top_left (p : FVec Ideal S1x16 .f32) (q : Fin 16 → EReal) (hp : ∀ a, along p a = q a) (hq : ∀ a, q a ≠ ⊥) (k : Fin 16) (o) :
    Cert.KernelIdeal.Hand.top (Cert.KernelIdeal.Hand.left p k.val) o = q (nth q k) := by
  have h := top_pick (Cert.KernelIdeal.Hand.left p k.val) o
  rw [h, left_eq p q hp hq k.val k.isLt.le, pick_left p q hp hq]
  unfold leftOf
  rw [if_neg]
  rintro ⟨i, hi, h⟩
  have := nth_injective q h
  omega

theorem beq_slot : ∀ k j : Fin 8, (BitVec.ofNat 32 k.val == BitVec.ofNat 32 j.val) = decide (k = j) := by decide

theorem put_apply (j : Fin 8) {w : BitVec 32} (hw : w = BitVec.ofNat 32 j.val) (t : FVec Ideal Cert.KernelIdeal.S1x1 .f32) (v : FVec Ideal S1x8 .f32) (k : Fin 8) :
    Cert.KernelIdeal.Hand.put w t v (ix2 (0 : Fin 1) k) =
      if k = j then t (ix2 (0 : Fin 1) (0 : Fin 1)) else v (ix2 (0 : Fin 1) k) := by
  subst hw
  have hl : Cert.KernelIdeal.Hand.slots (ix2 (0 : Fin 1) k) = BitVec.ofNat 32 k.val := by simp [Cert.KernelIdeal.Hand.slots, iota]
  have ht : broadcastTo S1x8 (shapeCast Cert.KernelIdeal.S1x1 t Cert.KernelIdeal.Gen.shapeCasts_S1x1_S1x1) Cert.KernelIdeal.Gen.broadcasts_S1x1_S1x8 (ix2 (0 : Fin 1) k)
      = t (ix2 (0 : Fin 1) (0 : Fin 1)) := by pointwise []
  unfold Cert.KernelIdeal.Hand.put
  show (if BitVec.ofBool (Cert.KernelIdeal.Hand.slots (ix2 (0 : Fin 1) k) == BitVec.ofNat 32 j.val) = 1#1 then
    broadcastTo S1x8 (shapeCast Cert.KernelIdeal.S1x1 t Cert.KernelIdeal.Gen.shapeCasts_S1x1_S1x1) Cert.KernelIdeal.Gen.broadcasts_S1x1_S1x8 (ix2 (0 : Fin 1) k)
      else v (ix2 (0 : Fin 1) k)) = _
  rw [hl, beq_slot, ht]
  by_cases h : k = j
  · rw [if_pos h, decide_eq_true h]; rfl
  · rw [if_neg h, decide_eq_false h]; rfl

/-- The eight values chosen. -/
theorem chosenVals_apply (p : FVec Ideal S1x16 .f32) (q : Fin 16 → EReal) (hp : ∀ a, along p a = q a) (hq : ∀ a, q a ≠ ⊥) (k : Fin 8) :
    Cert.KernelIdeal.Hand.chosenVals p (ix2 (0 : Fin 1) k) = q (nth q (k.castLE (by decide))) := by
  have e : Cert.KernelIdeal.Hand.chosenVals p (ix2 (0 : Fin 1) k) =
      Cert.KernelIdeal.Hand.top (Cert.KernelIdeal.Hand.left p k.val) (ix2 (0 : Fin 1) (0 : Fin 1)) := by
    unfold Cert.KernelIdeal.Hand.chosenVals
    rw [put_apply 7 (w := 7#32) rfl, put_apply 6 (w := 6#32) rfl, put_apply 5 (w := 5#32) rfl, put_apply 4 (w := 4#32) rfl, put_apply 3 (w := 3#32) rfl, put_apply 2 (w := 2#32) rfl, put_apply 1 (w := 1#32) rfl, put_apply 0 (w := 0#32) rfl]
    fin_cases k <;> rfl
  rw [e]
  exact top_left p q hp hq (k.castLE (by decide)) _

/-! ## The reference's order -/

/-- The reference's probabilities. -/
abbrev refProb (V : Gate.RV) (a : Fin 16) : EReal := Cert.ReferenceIdeal.Value.res_main_v14 (F := Ideal) V (ix1 a)

theorem sort_arg (x : FVec Ideal Cert.ReferenceIdeal.S16 .f32) (j : Cert.ReferenceIdeal.S16.Idx) :
    sortedFrom (fun k k' : Fin 16 => (FloatOps.cmpfTotal (F := Ideal) (φ := .f32) .gt (x (j.along (0 : Fin 1) k)) (x (j.along (0 : Fin 1) k')) == 1#1)) (j 0)
      = nth (fun a => x (ix1 a)) (j 0) := by
  have hj : ∀ k : Fin 16, j.along (0 : Fin 1) k = ix1 k := fun k => (Shape.Idx.along_rank1 j k).trans (by funext d; match d with | ⟨0, _⟩ => rfl)
  unfold nth
  congr 1
  funext k k'
  rw [hj, hj]
  show (BitVec.ofBool (decide (x (ix1 k') < x (ix1 k))) == 1#1) = _
  by_cases h : x (ix1 k') < x (ix1 k)
  · rw [decide_eq_true h]; rfl
  · rw [decide_eq_false h]; rfl

theorem topK_fst (x : FVec Ideal Cert.ReferenceIdeal.S16 .f32) (h) (k : Fin 8) :
    (Host.topK Cert.ReferenceIdeal.S8 0 (FloatOps.cmpfTotal (F := Ideal) (φ := .f32) .gt) x h).1 (ix1 k)
      = x (ix1 (nth (fun a => x (ix1 a)) (k.castLE (by decide)))) := by
  have hj : ∀ (j : Cert.ReferenceIdeal.S16.Idx) (k : Fin 16), j.along (0 : Fin 1) k = ix1 k := fun j k =>
    (Shape.Idx.along_rank1 j k).trans (by funext d; match d with | ⟨0, _⟩ => rfl)
  have hk : ∀ h', (⟨0 + k.val, h'⟩ : Fin 16) = k.castLE (by decide) := fun h' => Fin.ext (Nat.zero_add _)
  unfold Host.topK Host.sort2
  simp only [dif_pos (show (0 : ℕ) < Cert.ReferenceIdeal.S16.rank from Nat.one_pos)]
  unfold extractStridedSlice
  refine (congrArg (fun b => x (Shape.Idx.along _ (0 : Fin 1) b)) (sort_arg x _)).trans ?_
  rw [hj]
  exact congrArg (fun b => x (ix1 (nth _ b))) (hk _)

theorem topK_snd (x : FVec Ideal Cert.ReferenceIdeal.S16 .f32) (h) (k : Fin 8) :
    (Host.topK Cert.ReferenceIdeal.S8 0 (FloatOps.cmpfTotal (F := Ideal) (φ := .f32) .gt) x h).2 (ix1 k)
      = BitVec.ofNat 32 (nth (fun a => x (ix1 a)) (k.castLE (by decide))).val := by
  have hj : ∀ (j : Cert.ReferenceIdeal.S16.Idx) (k : Fin 16), j.along (0 : Fin 1) k = ix1 k := fun j k =>
    (Shape.Idx.along_rank1 j k).trans (by funext d; match d with | ⟨0, _⟩ => rfl)
  have hk : ∀ h', (⟨0 + k.val, h'⟩ : Fin 16) = k.castLE (by decide) := fun h' => Fin.ext (Nat.zero_add _)
  unfold Host.topK Host.sort2
  simp only [dif_pos (show (0 : ℕ) < Cert.ReferenceIdeal.S16.rank from Nat.one_pos)]
  unfold extractStridedSlice
  refine (congrArg (fun b => iotaInDim Cert.ReferenceIdeal.S16 32 (0 : Fin 1) (Shape.Idx.along _ (0 : Fin 1) b)) (sort_arg x _)).trans ?_
  rw [hj]
  exact congrArg (fun b => BitVec.ofNat 32 (nth (fun a => x (ix1 a)) b).val) (hk _)

end Cert.Order

end
-- ==== Proof.Take.lean ====
/- A row or a slab of a table of sixteen, taken at a word that names one of the sixteen, and the reference's test that
   the word does. -/
module

public import proofs.«01_k».proof.Proof.Gen.ReferenceIdeal
public import proofs.«01_k».proof.Proof.Gen.ReferenceIdeal.Run
public import Idealize.ShloMosaic.Lib.Pointwise
public import Idealize.ShloMosaic.PureOps.Ideal.Laws

@[expose] public section

set_option maxRecDepth 16384

noncomputable section

namespace Cert.Take

open Idealize.ShloMosaic Idealize.ShloMosaic.TcCoe

section
variable {α : Type}

/-- Rows of a table `[16, C]` taken at eight words. -/
abbrev rowDims (C : ℕ) (wf : GatherDims.WF ⟨2, ![16, C]⟩ ⟨2, ![8, 1]⟩ ⟨2, ![8, C]⟩ [1] [0] [] [0] [] 1 ![1, C]) :
    GatherDims ⟨2, ![16, C]⟩ ⟨2, ![8, 1]⟩ ⟨2, ![8, C]⟩ where
  offsetDims := [1]
  collapsedSliceDims := [0]
  operandBatchingDims := []
  startIndicesBatchingDims := []
  startIndexMap := [0]
  indexVectorDim := 1
  sliceSizes := ![1, C]
  wf := wf

/-- Slabs of a table `[16, A, B]` taken at eight words. -/
abbrev slabDims (A B : ℕ) (wf : GatherDims.WF ⟨3, ![16, A, B]⟩ ⟨2, ![8, 1]⟩ ⟨3, ![8, A, B]⟩ [1, 2] [0] [] [0] [] 1 ![1, A, B]) :
    GatherDims ⟨3, ![16, A, B]⟩ ⟨2, ![8, 1]⟩ ⟨3, ![8, A, B]⟩ where
  offsetDims := [1, 2]
  collapsedSliceDims := [0]
  operandBatchingDims := []
  startIndicesBatchingDims := []
  startIndexMap := [0]
  indexVectorDim := 1
  sliceSizes := ![1, A, B]
  wf := wf

theorem word_small : ∀ e : Fin 16, min (BitVec.ofNat 32 e.val).toInt.toNat 15 = e.val := by decide

theorem row_apply (C : ℕ) (wf) (x : (⟨2, ![16, C]⟩ : Shape).Idx → α) (idx : IVec ⟨2, ![8, 1]⟩ 32) (k : Fin 8) (d : Fin C) (e : Fin 16)
    (he : idx (ix2 k (0 : Fin 1)) = BitVec.ofNat 32 e.val) : Host.gather (rowDims C wf) x idx (ix2 k d) = x (ix2 e d) := by
  unfold Host.gather
  congr 1
  funext a
  refine Fin.ext ?_
  show (rowDims C wf).start (ix2 k d) idx a + (rowDims C wf).batchCoord (ix2 k d) a + (rowDims C wf).offCoord (ix2 k d) a = _
  rw [GatherDims.batchCoord_eq_zero _ _ _ List.not_mem_nil, Nat.add_zero]
  have h01 : a = 0 ∨ a = 1 := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims C wf).startIndexMap from List.mem_singleton.mpr rfl)]
    have hsi : (rowDims C wf).siIdx (ix2 k d) ⟨List.idxOf (0 : Fin 2) (rowDims C wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi, he]
    exact word_small e
  · unfold GatherDims.start
    rw [dif_neg (show ¬ ((1 : Fin 2) ∈ (rowDims C wf).startIndexMap) from fun h => by simp at h), Nat.zero_add]
    rfl

theorem slab_apply (A B : ℕ) (wf) (x : (⟨3, ![16, A, B]⟩ : Shape).Idx → α) (idx : IVec ⟨2, ![8, 1]⟩ 32) (k : Fin 8) (a : Fin A) (b : Fin B)
    (e : Fin 16) (he : idx (ix2 k (0 : Fin 1)) = BitVec.ofNat 32 e.val) :
    Host.gather (slabDims A B wf) x idx (ix3 k a b) = x (ix3 e a b) := by
  unfold Host.gather
  congr 1
  funext c
  refine Fin.ext ?_
  show (slabDims A B wf).start (ix3 k a b) idx c + (slabDims A B wf).batchCoord (ix3 k a b) c + (slabDims A B wf).offCoord (ix3 k a b) c = _
  rw [GatherDims.batchCoord_eq_zero _ _ _ List.not_mem_nil, Nat.add_zero]
  have h012 : c = 0 ∨ c = 1 ∨ c = 2 := by
    match c with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabDims A B wf).startIndexMap from List.mem_singleton.mpr rfl)]
    have hsi : (slabDims A B wf).siIdx (ix3 k a b) ⟨List.idxOf (0 : Fin 3) (slabDims A B wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi, he]
    exact word_small e
  · unfold GatherDims.start
    rw [dif_neg (show ¬ ((1 : Fin 3) ∈ (slabDims A B wf).startIndexMap) from fun h => by simp at h), Nat.zero_add]
    rfl
  · unfold GatherDims.start
    rw [dif_neg (show ¬ ((2 : Fin 3) ∈ (slabDims A B wf).startIndexMap) from fun h => by simp at h), Nat.zero_add]
    rfl

end

open Cert.ReferenceIdeal Cert.ReferenceIdeal.Gen

/-- The reference's test that a word names one of the sixteen. -/
abbrev inRange (idx : IVec S8x1 32) : IVec S8 1 :=
  Host.reduce IntOp.andi (andi (cmpi .sge idx (broadcastInDim S8x1 ![] bcast_S_S8x1 (constantI S_ 32 0#32))) (cmpi .sle idx (broadcastInDim S8x1 ![0, 1] bcast_S1x1_S8x1_0_1 (broadcastInDim S1x1 ![1] bcast_S1_S1x1_1 (constantI S1 32 15#32))))) (constantI S_ 1 1#1) reducesTo_S8x1_S8_d1 h_S_

theorem test_holds (idx : IVec S8x1 32) (k : Fin 8) (e : Fin 16) (he : idx (ix2 k (0 : Fin 1)) = BitVec.ofNat 32 e.val) :
    Finset.fold IntOp.andi (1#1) (fun x : Fin 1 => IntOp.andi (IntOp.cmpi CmpIPredicate.sge (idx (ix2 k x)) 0#32)
      (IntOp.cmpi CmpIPredicate.sle (idx (ix2 k x)) 15#32)) Finset.univ = 1#1 := by
  rw [show (Finset.univ : Finset (Fin 1)) = {0} from rfl, Finset.fold_singleton, he]
  clear he
  revert e
  decide

/-- The words name the experts `e`. -/
def Names (idx : IVec S8x1 32) (e : Fin 8 → Fin 16) : Prop := ∀ k, idx (ix2 k (0 : Fin 1)) = BitVec.ofNat 32 (e k).val

/-- A value chosen on a test that holds. -/
theorem select_test {α : Type} {t : Shape} (b : IVec t 1) (x y : t.Idx → α) (i : t.Idx) (h : b i = 1#1) : select b x y i = x i := by
  show Scalar.select (b i) (x i) (y i) = x i
  rw [h]; rfl

variable (idx : IVec S8x1 32) (e : Fin 8 → Fin 16) (he : Names idx e)
include he

theorem take_slab1 (x : FVec Ideal S16x1024x2048 .f32) (z : FVec Ideal S8x1024x2048 .f32) :
    select (broadcastInDim S8x1024x2048 ![0] bcast_S8_S8x1024x2048_0 (inRange idx))
      (Host.gather gather_S16x1024x2048_S8x1_S8x1024x2048_12_0_n_n_0_1_110242048 x idx) z
      = fun j => x (ix3 (e (j 0)) (j 1) (j 2)) := by
  funext j
  rw [eq_ix3 j, select_test]
  · exact slab_apply 1024 2048 _ x idx (j 0) (j 1) (j 2) (e (j 0)) (he _)
  · pointwise []
    exact test_holds idx (j 0) (e (j 0)) (he _)

theorem take_slab2 (x : FVec Ideal S16x2048x1024 .f32) (z : FVec Ideal S8x2048x1024 .f32) :
    select (broadcastInDim S8x2048x1024 ![0] bcast_S8_S8x2048x1024_0 (inRange idx))
      (Host.gather gather_S16x2048x1024_S8x1_S8x2048x1024_12_0_n_n_0_1_120481024 x idx) z
      = fun j => x (ix3 (e (j 0)) (j 1) (j 2)) := by
  funext j
  rw [eq_ix3 j, select_test]
  · exact slab_apply 2048 1024 _ x idx (j 0) (j 1) (j 2) (e (j 0)) (he _)
  · pointwise []
    exact test_holds idx (j 0) (e (j 0)) (he _)

theorem take_row1 (x : FVec Ideal S16x2048 .f32) (z : FVec Ideal S8x2048 .f32) :
    select (broadcastInDim S8x2048 ![0] bcast_S8_S8x2048_0 (inRange idx))
      (Host.gather gather_S16x2048_S8x1_S8x2048_1_0_n_n_0_1_12048 x idx) z
      = fun j => x (ix2 (e (j 0)) (j 1)) := by
  funext j
  rw [eq_ix2 j, select_test]
  · exact row_apply 2048 _ x idx (j 0) (j 1) (e (j 0)) (he _)
  · pointwise []
    exact test_holds idx (j 0) (e (j 0)) (he _)

theorem take_row2 (x : FVec Ideal S16x1024 .f32) (z : FVec Ideal S8x1024 .f32) :
    select (broadcastInDim S8x1024 ![0] bcast_S8_S8x1024_0 (inRange idx))
      (Host.gather gather_S16x1024_S8x1_S8x1024_1_0_n_n_0_1_11024 x idx) z
      = fun j => x (ix2 (e (j 0)) (j 1)) := by
  funext j
  rw [eq_ix2 j, select_test]
  · exact row_apply 1024 _ x idx (j 0) (j 1) (e (j 0)) (he _)
  · pointwise []
    exact test_holds idx (j 0) (e (j 0)) (he _)

end Cert.Take

end
-- ==== Proof.Expert.lean ====
/- One expert over the extended reals: the kernel's answer and the reference's. -/
module

public import proofs.«01_k».proof.Proof.Order
public import proofs.«01_k».proof.Proof.Take

@[expose] public section

set_option maxRecDepth 16384

noncomputable section

namespace Cert.Expert

open Idealize.ShloMosaic Idealize.ShloMosaic.TcCoe

/-- The first layer. -/
def first (x : Fin 1024 → EReal) (W : Fin 1024 → Fin 2048 → EReal) (b : Fin 2048 → EReal) (f : Fin 2048) : EReal := (∑ d, x d * W d f) + b f

/-- Half of `h` times one more than the error function of `h` scaled. -/
def gelu (h : EReal) : EReal :=
  Ideal.ofBits .f32 0x3F000000#32 * h * (1 + Ideal.erf (h * Ideal.ofBits .f32 0x3F3504F3#32))

/-- The second layer. -/
def second (h : Fin 2048 → EReal) (W : Fin 2048 → Fin 1024 → EReal) (b : Fin 1024 → EReal) (j : Fin 1024) : EReal := (∑ f, h f * W f j) + b j

/-- The mean of a row. -/
def mean (o : Fin 1024 → EReal) : EReal := Ideal.div (∑ j, o j) (Ideal.ofBits .f32 0x44800000#32)

/-- The mean square of a row's distance from its mean, and a little. -/
def spread (o : Fin 1024 → EReal) : EReal :=
  mean (fun j => (o j - mean o) * (o j - mean o)) + Ideal.ofBits .f32 0x3727C5AC#32

theorem hidden_apply (x : FVec Ideal Cert.KernelIdeal.S1x1024 .f32) (W : Vec Ideal Cert.KernelIdeal.S1x1024x2048 .f32)
    (b : Vec Ideal Cert.KernelIdeal.S1x1x2048 .f32) (f : Fin 2048) : Cert.KernelIdeal.Hand.hidden x W b (ix2 (0 : Fin 1) f) =
      gelu (first (fun d => x (ix2 0 d)) (fun d f => W (ix3 0 d f)) (fun f => b (ix3 0 0 f)) f) := by
  pointwise [Cert.KernelIdeal.Hand.hidden]
  rfl

theorem outer_apply (h : FVec Ideal Cert.KernelIdeal.S1x2048 .f32) (W : Vec Ideal Cert.KernelIdeal.S1x2048x1024 .f32)
    (b : Vec Ideal Cert.KernelIdeal.S1x1x1024 .f32) (j : Fin 1024) : Cert.KernelIdeal.Hand.outer h W b (ix2 (0 : Fin 1) j) =
      second (fun f => h (ix2 0 f)) (fun f j => W (ix3 0 f j)) (fun j => b (ix3 0 0 j)) j := by
  pointwise [Cert.KernelIdeal.Hand.outer]
  rfl

theorem rowMean_apply (o : FVec Ideal Cert.KernelIdeal.S1x1024 .f32) : Cert.KernelIdeal.Hand.rowMean o (ix2 (0 : Fin 1) (0 : Fin 1)) =
      mean (fun j => o (ix2 0 j)) := by
  pointwise [Cert.KernelIdeal.Hand.rowMean]
  rfl

theorem normed_apply (o : FVec Ideal Cert.KernelIdeal.S1x1024 .f32) (lw lb : Vec Ideal Cert.KernelIdeal.S1x1x1024 .f32) (j : Fin 1024) :
    Cert.KernelIdeal.Hand.normed o lw lb (ix2 (0 : Fin 1) j) =
      (o (ix2 0 j) - mean (fun j => o (ix2 0 j))) * Ideal.rsqrt (spread (fun j => o (ix2 0 j))) * lw (ix3 0 0 j) + lb (ix3 0 0 j) := by
  pointwise [Cert.KernelIdeal.Hand.normed, Cert.KernelIdeal.Hand.rowMean]
  rfl

/-! ## The reference's experts -/

open Cert.ReferenceIdeal Cert.ReferenceIdeal.Gen Cert.ReferenceIdeal.Value

abbrev RV := Cert.Gate.RV

/-- The experts the reference chooses. -/
def expertOf (V : RV) (k : Fin 8) : Fin 16 := Cert.Order.nth (Cert.Order.refProb V) (k.castLE (by decide))

theorem indices_apply (V : RV) (k : Fin 8) : res_main_indices (F := Ideal) V (ix1 k) = BitVec.ofNat 32 (expertOf V k).val :=
  Cert.Order.topK_snd _ _ k

theorem wrap_small : ∀ e : Fin 16, Scalar.select (IntOp.cmpi .slt (BitVec.ofNat 32 e.val) 0#32) (IntOp.addi (BitVec.ofNat 32 e.val) 16#32) (BitVec.ofNat 32 e.val)
    = BitVec.ofNat 32 e.val := by decide

theorem names (V : RV) : Cert.Take.Names (res_main_call1_v5 (F := Ideal) V) (expertOf V) := fun k => by
  pointwise [res_main_call1_v5]
  rw [indices_apply]
  exact wrap_small _

/-- The reference's first layer. -/
theorem v32_apply (V : RV) (k : Fin 8) (f : Fin 2048) : res_main_v32 (F := Ideal) V (ix2 k f) =
    first (fun d => V (Proc.devRef .tc main_arg0) (ix1 d)) (fun d f => V (Proc.devRef .tc main_arg5) (ix3 (expertOf V k) d f))
      (fun f => V (Proc.devRef .tc main_arg6) (ix2 (expertOf V k) f)) f := by
  unfold res_main_v32
  rw [Cert.Take.take_slab1 _ _ (names V), Cert.Take.take_row1 (res_main_call2_v5 V) _ (names V)]
  pointwise []
  rfl

theorem v41_apply (V : RV) (k : Fin 8) (j : Fin 1024) : res_main_v41 (F := Ideal) V (ix2 k j) =
    second (fun f => gelu (res_main_v32 (F := Ideal) V (ix2 k f))) (fun f j => V (Proc.devRef .tc main_arg7) (ix3 (expertOf V k) f j))
      (fun j => V (Proc.devRef .tc main_arg8) (ix2 (expertOf V k) j)) j := by
  unfold res_main_v41
  rw [Cert.Take.take_slab2 (res_main_call3_v5 V) _ (names V), Cert.Take.take_row2 (res_main_call4_v5 V) _ (names V)]
  pointwise []
  unfold second gelu
  refine congrArg₂ (· + ·) (Finset.sum_congr rfl fun f _ => ?_) rfl
  rw [EReal.neg_mul, Ideal.erfc_neg]

/-- The reference's answers, one row an expert. -/
abbrev refRow (V : RV) (k : Fin 8) (j : Fin 1024) : EReal := res_main_v41 (F := Ideal) V (ix2 k j)

theorem count_pos : Ideal.ofBits .f32 0x44800000#32 = ((1024 : ℝ) : EReal) := by
  simp [Ideal.ofBits, Ideal.ieee, -EReal.coe_mul]; norm_num

theorem count_apply (V : RV) : res_main_call7_v8 (F := Ideal) V ix0 = Ideal.ofBits .f32 0x44800000#32 := by
  pointwise [res_main_call7_v8]
  have h : (FloatOps.sitofp (F := Ideal) FTy.f32 (0#32) : Ideal .f32) = (0 : EReal) := by
    show ((((0#32).toInt : ℤ) : ℝ) : EReal) = 0
    norm_num
  exact (congrArg (Ideal.ofBits .f32 0x44800000#32 - ·) h).trans (sub_zero _)

theorem dev_apply (V : RV) (k : Fin 8) (j : Fin 1024) : res_main_call7_v5 (F := Ideal) V (ix2 k j) = refRow V k j - mean (refRow V k) := by
  pointwise [res_main_call7_v5]
  rfl

/-- The reference's weights. -/
abbrev refGate (V : RV) (k : Fin 8) : EReal := Cert.Gate.softmax (Cert.Gate.refVals V) k

/-- The reference's first result. -/
def result (V : RV) : FVec Ideal S1024 .f32 :=
  Host.reduceAdd (mulf (broadcastInDim S8x1024 ![0, 1] bcast_S8x1_S8x1024_0_1 (broadcastInDim S8x1 ![0] bcast_S8_S8x1_0 (Host.divf (res_main_v20 V) (broadcastInDim S8 ![0] bcast_S1_S8_0 (broadcastInDim S1 ![] bcast_S_S1 (Host.reduceAdd (res_main_v20 V) (constant S_ .f32 0x00000000#32) reducesTo_S8_S_d0 h_S_))))))
    (addf (mulf (Host.divf (subf (res_main_v41 V) (broadcastInDim S8x1024 ![0, 1] bcast_S8x1_S8x1024_0_1 (Host.divf (broadcastInDim S8x1 ![0] bcast_S8_S8x1_0 (Host.reduceAdd (res_main_v41 V) (constant S_ .f32 0x00000000#32) reducesTo_S8x1024_S8_d1 h_S_)) (broadcastInDim S8x1 ![] bcast_S_S8x1 (constant S_ .f32 0x44800000#32)))))
      (broadcastInDim S8x1024 ![0, 1] bcast_S8x1_S8x1024_0_1 (Host.sqrt (addf (select (broadcastInDim S8x1 ![] bcast_S_S8x1 (cmpf .ogt (res_main_call7_v8 V) (constant S_ .f32 0x00000000#32)))
        (Host.divf (broadcastInDim S8x1 ![0] bcast_S8_S8x1_0 (Host.reduceAdd (mulf (res_main_call7_v5 V) (res_main_call7_v5 V)) (constant S_ .f32 0x00000000#32) reducesTo_S8x1024_S8_d1 h_S_)) (broadcastInDim S8x1 ![] bcast_S_S8x1 (res_main_call7_v8 V)))
        (broadcastInDim S8x1 ![] bcast_S_S8x1 (id (constant S_ .f32 0x7FC00000#32)))) (broadcastInDim S8x1 ![] bcast_S_S8x1 (constant S_ .f32 0x3727C5AC#32))))))
      (select (broadcastInDim S8x1024 ![0] bcast_S8_S8x1024_0 (Cert.Take.inRange (res_main_call5_v5 V))) (Host.gather gather_S16x1024_S8x1_S8x1024_1_0_n_n_0_1_11024 (V (Proc.devRef .tc main_arg9)) (res_main_call5_v5 V)) (broadcastInDim S8x1024 ![] bcast_S_S8x1024 (constant S_ .f32 0x7FC00000#32))))
      (select (broadcastInDim S8x1024 ![0] bcast_S8_S8x1024_0 (Cert.Take.inRange (res_main_call6_v5 V))) (Host.gather gather_S16x1024_S8x1_S8x1024_1_0_n_n_0_1_11024 (V (Proc.devRef .tc main_arg10)) (res_main_call6_v5 V)) (broadcastInDim S8x1024 ![] bcast_S_S8x1024 (constant S_ .f32 0x7FC00000#32)))))
    (constant S_ .f32 0x00000000#32) reducesTo_S8x1024_S1024_d0 h_S_

theorem result_apply (V : RV) (j : Fin 1024) : result V (ix1 j) =
    ∑ k : Fin 8, refGate V k * (Ideal.div (refRow V k j - mean (refRow V k)) (Ideal.sqrt (spread (refRow V k)))
      * V (Proc.devRef .tc main_arg9) (ix2 (expertOf V k) j) + V (Proc.devRef .tc main_arg10) (ix2 (expertOf V k) j)) := by
  unfold result
  rw [Cert.Take.take_row2 (res_main_call5_v5 V) _ (names V), Cert.Take.take_row2 (res_main_call6_v5 V) _ (names V)]
  pointwise []
  refine Finset.sum_congr rfl fun k _ => ?_
  rw [count_apply, if_pos (by rw [count_pos]; norm_num)]
  simp only [dev_apply, Cert.Gate.ref_gate_exp]
  rfl

theorem mixed_apply (g : FVec Ideal Cert.KernelIdeal.S1x8 .f32) (y : Fin 8 → FVec Ideal Cert.KernelIdeal.S1x1024 .f32) (j : Fin 1024) :
    Cert.KernelIdeal.Hand.mixed g (y 0) (y 1) (y 2) (y 3) (y 4) (y 5) (y 6) (y 7) (ix2 (0 : Fin 1) j) =
      ∑ k : Fin 8, g (ix2 (0 : Fin 1) k) * y k (ix2 (0 : Fin 1) j) := by
  pointwise [Cert.KernelIdeal.Hand.mixed, Cert.KernelIdeal.Hand.addTo]
  rw [Fin.sum_univ_eight]

/-! ## A quotient by a root and a product with its inverse -/

theorem eps_pos : ∃ r : ℝ, 0 < r ∧ Ideal.ofBits .f32 0x3727C5AC#32 = (r : EReal) := by
  refine ⟨_, ?_, by simp [Ideal.ofBits, Ideal.ieee, -EReal.coe_mul]; rfl⟩
  norm_num

theorem square_nonneg (x : EReal) : 0 ≤ x * x := by
  induction x with
  | bot => simp
  | top => simp
  | coe r => rw [← EReal.coe_mul]; exact_mod_cast mul_self_nonneg r

theorem mean_nonneg (o : Fin 1024 → EReal) (h : ∀ j, 0 ≤ o j) : 0 ≤ mean o := by
  unfold mean
  rw [count_pos, Ideal.div, if_neg (by norm_num)]
  rw [← EReal.coe_inv]
  exact mul_nonneg (Finset.sum_nonneg fun j _ => h j) (by exact_mod_cast (by positivity : (0 : ℝ) ≤ (1024 : ℝ)⁻¹))

theorem div_sqrt (d : EReal) (o : Fin 1024 → EReal) : Ideal.div d (Ideal.sqrt (spread o)) = d * Ideal.rsqrt (spread o) := by
  have hv : 0 ≤ mean (fun j => (o j - mean o) * (o j - mean o)) := mean_nonneg _ fun j => square_nonneg _
  obtain ⟨e, he, hee⟩ := eps_pos
  unfold spread
  rw [hee]
  generalize mean (fun j => (o j - mean o) * (o j - mean o)) = v at hv
  induction v with
  | bot => exact absurd hv (by simp)
  | top =>
    rw [EReal.top_add_coe, Ideal.sqrt_top, Ideal.rsqrt_top, Ideal.div, if_neg (by simp), EReal.inv_top]
  | coe r =>
    have hr : 0 ≤ r := by exact_mod_cast hv
    have hpos : 0 < r + e := by linarith
    rw [← EReal.coe_add, Ideal.sqrt_coe, Ideal.rsqrt_coe, if_neg (not_lt.mpr hpos.le), if_neg (not_lt.mpr hpos.le), if_neg hpos.ne',
      Ideal.div, if_neg (by exact_mod_cast (Real.sqrt_pos.mpr hpos).ne'), EReal.coe_inv]

end Cert.Expert

end
-- ==== Proof.Agree.lean ====
/- The kernel's two results and the reference's are the same, from the same arguments whose gate is finite. -/
module

public import proofs.«01_k».proof.Proof.Read
public import proofs.«01_k».proof.Proof.Expert
public import proofs.«01_k».proof.Proof.Frames

@[expose] public section

set_option maxRecDepth 16384

noncomputable section

namespace Cert.Agree

open Cert.KernelIdeal Cert.KernelIdeal.Gen Cert.KernelIdeal.Hand
open Cert.Gate Cert.Order Cert.Expert Cert.Read
open Idealize.ShloMosaic Idealize.ShloMosaic.TcCoe Idealize.SL.Sem

/-- The kernel's memory. -/
abbrev Mem := (ℓ : Loc nD τ sig) → Buf (Elt Ideal) ℓ

/-- A valuation of the reference and a device's memory have the same arguments. -/
structure Same (V : Gate.RV) (m : Mem) (c : Dev nD) : Prop where
  a0 : V (Proc.devRef .tc Cert.ReferenceIdeal.main_arg0) = m ((c : Thread nD τ).loc main_arg0)
  a1 : V (Proc.devRef .tc Cert.ReferenceIdeal.main_arg1) = m ((c : Thread nD τ).loc main_arg1)
  a2 : V (Proc.devRef .tc Cert.ReferenceIdeal.main_arg2) = m ((c : Thread nD τ).loc main_arg2)
  a3 : V (Proc.devRef .tc Cert.ReferenceIdeal.main_arg3) = m ((c : Thread nD τ).loc main_arg3)
  a4 : V (Proc.devRef .tc Cert.ReferenceIdeal.main_arg4) = m ((c : Thread nD τ).loc main_arg4)
  a5 : V (Proc.devRef .tc Cert.ReferenceIdeal.main_arg5) = m ((c : Thread nD τ).loc main_arg5)
  a6 : V (Proc.devRef .tc Cert.ReferenceIdeal.main_arg6) = m ((c : Thread nD τ).loc main_arg6)
  a7 : V (Proc.devRef .tc Cert.ReferenceIdeal.main_arg7) = m ((c : Thread nD τ).loc main_arg7)
  a8 : V (Proc.devRef .tc Cert.ReferenceIdeal.main_arg8) = m ((c : Thread nD τ).loc main_arg8)
  a9 : V (Proc.devRef .tc Cert.ReferenceIdeal.main_arg9) = m ((c : Thread nD τ).loc main_arg9)
  a10 : V (Proc.devRef .tc Cert.ReferenceIdeal.main_arg10) = m ((c : Thread nD τ).loc main_arg10)

/-- The gate's five arrays hold real numbers. -/
structure RealGate (V : Gate.RV) : Prop where
  x : ∀ d : Fin 1024, IsReal (V (Proc.devRef .tc Cert.ReferenceIdeal.main_arg0) (ix1 d))
  W1 : ∀ (d : Fin 1024) (f : Fin 512), IsReal (V (Proc.devRef .tc Cert.ReferenceIdeal.main_arg1) (ix2 d f))
  b1 : ∀ f : Fin 512, IsReal (V (Proc.devRef .tc Cert.ReferenceIdeal.main_arg2) (ix1 f))
  W2 : ∀ (f : Fin 512) (a : Fin 16), IsReal (V (Proc.devRef .tc Cert.ReferenceIdeal.main_arg3) (ix2 f a))
  b2 : ∀ a : Fin 16, IsReal (V (Proc.devRef .tc Cert.ReferenceIdeal.main_arg4) (ix1 a))

theorem refProb_ne_bot {V : Gate.RV} (h : RealGate V) (a : Fin 16) : refProb V a ≠ ⊥ := by
  unfold refProb
  rw [ref_prob]
  refine softmax_ne_bot _ (fun a => ?_) a
  rw [ref_logit]
  exact logit_fin h.x h.W1 h.b1 h.W2 h.b2 a

variable {V : Gate.RV} {m : Mem} {c : Dev nD}

/-- The probabilities are the same. -/
theorem prob_eq (h : Same V m c) (a : Fin 16) : probAt m c t0 (ix2 (0 : Fin 1) a) = refProb V a := by
  unfold probAt refProb
  rw [kernel_prob, ref_prob]
  refine congrArg (fun s => softmax s a) (funext fun a => ?_)
  rw [ref_logit, h.a0, h.a1, h.a2, h.a3, h.a4, blk1, blk3]
  simp only [blk0, blk2, blk4]

/-- The chosen probabilities are the same. -/
theorem vals_eq (V : Gate.RV) (k : Fin 8) : refVals V k = refProb V (expertOf V k) := topK_fst _ _ k

/-- One expert's answer, of either program. -/
def answerOf (V : Gate.RV) (k : Fin 8) (j : Fin 1024) : EReal :=
  (refRow V k j - mean (refRow V k)) * Ideal.rsqrt (spread (refRow V k))
    * V (Proc.devRef .tc Cert.ReferenceIdeal.main_arg9) (ix2 (expertOf V k) j) + V (Proc.devRef .tc Cert.ReferenceIdeal.main_arg10) (ix2 (expertOf V k) j)

theorem row_eq (h : Same V m c) (k : Fin 8) (j : Fin 1024) :
    outer (hidden (k0_pay2 (iblk m c 0 t0)) (tables m c (BitVec.ofNat 32 (expertOf V k).val)).W1 (tables m c (BitVec.ofNat 32 (expertOf V k).val)).b1)
      (tables m c (BitVec.ofNat 32 (expertOf V k).val)).W2 (tables m c (BitVec.ofNat 32 (expertOf V k).val)).b2 (ix2 (0 : Fin 1) j) = refRow V k j := by
  have hx : ∀ d : Fin 1024, k0_pay2 (F := Ideal) (iblk m c 0 t0) (ix2 (0 : Fin 1) d) = m ((c : Thread nD τ).loc main_arg0) (ix1 d) := fun d => by
    rw [← blk0 m c d]
    pointwise [k0_pay2]
  unfold refRow
  rw [outer_apply, v41_apply, h.a7, h.a8]
  simp only [hidden_apply, v32_apply, h.a0, h.a5, h.a6, hx]
  have e1 := funext fun d => funext fun f => table_W1 m c (expertOf V k) d f
  have e2 := funext fun f => table_b1 m c (expertOf V k) f
  have e3 := funext fun f => funext fun j => table_W2 m c (expertOf V k) f j
  have e4 := funext fun j => table_b2 m c (expertOf V k) j
  rw [e1, e2, e3, e4]

theorem expert_eq (h : Same V m c) (k : Fin 8) (j : Fin 1024) :
    expert (k0_pay2 (iblk m c 0 t0)) (tables m c (BitVec.ofNat 32 (expertOf V k).val)) (ix2 (0 : Fin 1) j) = answerOf V k j := by
  unfold expert answerOf
  rw [normed_apply, h.a9, h.a10, table_lw, table_lb]
  simp only [row_eq h]

/-- The answers are the same. -/
theorem answer_eq (h : Same V m c) (hr : RealGate V) (j : Fin 1024) : answerAt m c t0 (ix2 (0 : Fin 1) j) = result V (ix1 j) := by
  have hp : ∀ a, Cert.KernelIdeal.Choice.along (probAt m c t0) a = refProb V a := prob_eq h
  have hq := refProb_ne_bot hr
  refine (mixed_apply _ (fun k : Fin 8 => expert (k0_pay2 (iblk m c 0 t0)) (tables m c (placeAt (probAt m c t0) k.val))) j).trans ?_
  rw [result_apply]
  refine Finset.sum_congr rfl fun k _ => ?_
  rw [soft8_apply, div_sqrt]
  refine congrArg₂ (· * ·) (congrArg (fun s => softmax s k) (funext fun k => ?_)) ?_
  · rw [vals_eq]
    exact chosenVals_apply (probAt m c t0) (refProb V) hp hq k
  · have e := placeAt_eq (probAt m c t0) (refProb V) hp hq (k.castLE (by decide))
    refine Eq.trans ?_ (expert_eq h k j)
    exact congrArg (fun w => expert (k0_pay2 (iblk m c 0 t0)) (tables m c w) (ix2 (0 : Fin 1) j)) e

/-! ## The two arrays -/

theorem first_result (h : Same V m c) (hr : RealGate V) : shapeCast S1024 (answerAt m c t0) shapeCasts_S1x1024_S1024 = result V := by
  funext i
  obtain ⟨j, rfl⟩ : ∃ j : Fin 1024, i = ix1 j := ⟨i 0, by funext d; match d with | ⟨0, _⟩ => rfl⟩
  rw [← answer_eq h hr j]
  generalize answerAt m c t0 = v
  pointwise []

theorem second_result (h : Same V m c) : shapeCast S16 (probAt m c t0) shapeCasts_S1x16_S16 = Cert.ReferenceIdeal.Value.res_main_v14 V := by
  funext i
  obtain ⟨j, rfl⟩ : ∃ j : Fin 16, i = ix1 j := ⟨i 0, by funext d; match d with | ⟨0, _⟩ => rfl⟩
  refine Eq.trans ?_ (prob_eq h j)
  generalize probAt m c t0 = v
  pointwise []

/-! ## The precondition -/

theorem preFacts : Cert.Pre_finite_gate.Facts := ⟨by decide, by decide, by decide, by decide, by decide⟩

theorem top_bits : Ideal.ofBits .f32 0x7F800000#32 = ⊤ := by simp [Ideal.ofBits, Ideal.ieee]

/-- A number whose magnitude is less than infinity is real. -/
theorem real_of_lt {x : EReal} (h : FloatOps.cmpf (F := Ideal) (φ := .f32) .olt (FloatOps.absf (F := Ideal) (φ := .f32) x) (Ideal.ofBits .f32 0x7F800000#32) = 1#1) : IsReal x := by
  rw [top_bits] at h
  induction x with
  | bot => exact absurd h (by simp [FloatOps.cmpf, FloatOps.absf, Ideal.cmp])
  | top => exact absurd h (by simp [FloatOps.cmpf, FloatOps.absf, Ideal.cmp])
  | coe r => exact ⟨r, rfl⟩

/-- The precondition says that the gate's arrays are real. -/
theorem realGate (h : Same V m c) (hp : @Cert.Pre_KernelIdeal_finite_gate preFacts m) : RealGate V := by
  obtain ⟨h0, h1, h2, h3, h4⟩ := hp c
  exact ⟨fun d => by rw [h.a0]; exact real_of_lt (congrFun h0 (ix1 d)), fun d f => by rw [h.a1]; exact real_of_lt (congrFun h1 (ix2 d f)),
    fun f => by rw [h.a2]; exact real_of_lt (congrFun h2 (ix1 f)), fun f a => by rw [h.a3]; exact real_of_lt (congrFun h3 (ix2 f a)),
    fun a => by rw [h.a4]; exact real_of_lt (congrFun h4 (ix1 a))⟩

/-- The two programs' results are equal over the extended reals. -/
theorem algebraic : @Cert.algebraic_KernelIdeal_ReferenceIdeal_pre_finite_gate Cert.KernelIdeal.Gen.facts Cert.ReferenceIdeal.Gen.facts preFacts := by
  intro m g m' g' hp ha
  have hs : ∀ c : Dev nD, Same (Idealize.ShloMosaic.StableHlo.launchContents m' c) m c := fun c => by
    obtain ⟨a0, a1, a2, a3, a4, a5, a6, a7, a8, a9, a10⟩ := ha c
    exact ⟨a0, a1, a2, a3, a4, a5, a6, a7, a8, a9, a10⟩
  refine ⟨fun c => shapeCast S1024 (answerAt m c t0) shapeCasts_S1x1024_S1024, fun c => shapeCast S16 (probAt m c t0) shapeCasts_S1x16_S16, ?_, ?_⟩
  · exact (θ_run Cert.KernelIdeal.defs _ _).mono (fun r h => h.1) (run_named m g (Cert.KernelIdeal.Choice.allChosen m))
  · refine (θ_run Cert.ReferenceIdeal.defs _ _).mono (fun r h c => ?_) (Cert.ReferenceIdeal.Value.run (F := Ideal) m' g')
    obtain ⟨r0, r1, rest⟩ := h c
    exact ⟨r0.trans (first_result (hs c) (realGate (hs c) hp)).symm, r1.trans (second_result (hs c)).symm, rest⟩

end Cert.Agree

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

theorem claim : Cert.Claim :=
  ⟨Cert.KernelIdeal.Gen.facts, Cert.ReferenceIdeal.Gen.facts, Cert.Agree.preFacts, Cert.Frames.kernel, fun m g _ => Cert.Frames.kernel m g trivial,
    Cert.Frames.reference, fun m g _ => Cert.Frames.reference m g trivial, Cert.Agree.algebraic⟩

end Cert.Proof

end
